-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_moderate [hPre_moderate : Cert.Pre_moderate.Facts] (m : (ℓ : Loc Cert.KernelIdeal.nD Cert.KernelIdeal.τ Cert.KernelIdeal.sig) → Buf (Elt Ideal) ℓ) : Prop :=
  ∀ c : Dev Cert.KernelIdeal.nD,
    (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_moderate [hPre_moderate : Cert.Pre_moderate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_moderate [hKernelIdeal : Cert.KernelIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_moderate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_moderate [hReferenceIdeal : Cert.ReferenceIdeal.Facts] [hPre_moderate : Cert.Pre_moderate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_moderate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_moderate [hKernelIdeal : Cert.KernelIdeal.Facts] [hReferenceIdeal : Cert.ReferenceIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_moderate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_moderate : Cert.Pre_moderate.Facts),
    quiescent_Kernel (hKernel := hKernel)
    ∧ quiescent_KernelIdeal (hKernelIdeal := hKernelIdeal)
    ∧ quiescent_KernelIdeal_pre_moderate (hKernelIdeal := hKernelIdeal) (hPre_moderate := hPre_moderate)
    ∧ quiescent_ReferenceIdeal (hReferenceIdeal := hReferenceIdeal)
    ∧ quiescent_ReferenceIdeal_pre_moderate (hReferenceIdeal := hReferenceIdeal) (hPre_moderate := hPre_moderate)
    ∧ preserves_Kernel_KernelIdeal
    ∧ algebraic_KernelIdeal_ReferenceIdeal_pre_moderate (hKernelIdeal := hKernelIdeal) (hReferenceIdeal := hReferenceIdeal) (hPre_moderate := hPre_moderate)
-- ==== Pre_moderate.lean ====
abbrev S16384x3 : Shape := ⟨2, ![16384, 3]⟩
abbrev S16384x16 : Shape := ⟨2, ![16384, 16]⟩
abbrev S16384 : Shape := ⟨1, ![16384]⟩
abbrev S6x64 : Shape := ⟨2, ![6, 64]⟩
abbrev S64 : Shape := ⟨1, ![64]⟩
abbrev S64x64 : Shape := ⟨2, ![64, 64]⟩
abbrev S32x64 : Shape := ⟨2, ![32, 64]⟩
abbrev S64x128 : Shape := ⟨2, ![64, 128]⟩
abbrev S128 : Shape := ⟨1, ![128]⟩
abbrev S_ : Shape := ⟨0, ![]⟩
abbrev S3x64 : Shape := ⟨2, ![3, 64]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel
  slices_S6x64_S3x64_3_0 : S6x64.Slices ![3, 0] S3x64
  bcast_S_S3x64 : S_.BroadcastsInDim S3x64 (![] : Fin 0 → Fin S3x64.rank)
  reducesTo_S3x64_S_d0_1 : S3x64.ReducesTo [0, 1] S_

variable [Facts]

def fn {F : FTy → Type} [FloatOps F] (main_arg0 : FVec F S16384x3 .f32) (main_arg1 : FVec F S16384x16 .f32) (main_arg2 : IVec S16384 32) (main_arg3 : FVec F S6x64 .f32) (main_arg4 : FVec F S64 .f32) (main_arg5 : FVec F S64x64 .f32) (main_arg6 : FVec F S64 .f32) (main_arg7 : FVec F S32x64 .f32) (main_arg8 : FVec F S64 .f32) (main_arg9 : FVec F S64x128 .f32) (main_arg10 : FVec F S128 .f32) (main_arg11 : FVec F S64 .f32) (main_arg12 : FVec F S64 .f32) : IVec S_ 1 :=
  let main_v0 : FVec F S16384x3 .f32 := Host.absf main_arg0
  let main_cst : FVec F S_ .f32 := constant S_ .f32 0x5D5E0B6B#32
  let main_v1 : FVec F S16384x3 .f32 := broadcastInDim S16384x3 ![] bcast_S_S16384x3 main_cst
  let main_v2 : IVec S16384x3 1 := cmpf .ole main_v0 main_v1
  let main_c : IVec S_ 1 := constantI S_ 1 1#1
  let main_v3 : IVec S_ 1 := (fun x v => Host.reduce IntOp.andi x v reducesTo_S16384x3_S_d0_1 h_S_) main_v2 main_c
  let main_v4 : FVec F S3x64 .f32 := (extractStridedSlice S3x64 ![3, 0] · slices_S6x64_S3x64_3_0) main_arg3
  let main_v5 : FVec F S3x64 .f32 := Host.absf main_v4
  let main_cst_0 : FVec F S_ .f32 := constant S_ .f32 0x7F800000#32
  let main_v6 : FVec F S3x64 .f32 := broadcastInDim S3x64 ![] bcast_S_S3x64 main_cst_0
  let main_v7 : IVec S3x64 1 := cmpf .olt main_v5 main_v6
  let main_c_1 : IVec S_ 1 := constantI S_ 1 1#1
  let main_v8 : IVec S_ 1 := (fun x v => Host.reduce IntOp.andi x v reducesTo_S3x64_S_d0_1 h_S_) main_v7 main_c_1
  let main_v9 : IVec S_ 1 := andi main_v3 main_v8
  main_v9
-- ==== Kernel.lean ====
abbrev S16384x3 : Shape := ⟨2, ![16384, 3]⟩
abbrev S16384x16 : Shape := ⟨2, ![16384, 16]⟩
abbrev S16384 : Shape := ⟨1, ![16384]⟩
abbrev S6x64 : Shape := ⟨2, ![6, 64]⟩
abbrev S64 : Shape := ⟨1, ![64]⟩
abbrev S64x64 : Shape := ⟨2, ![64, 64]⟩
abbrev S32x64 : Shape := ⟨2, ![32, 64]⟩
abbrev S64x128 : Shape := ⟨2, ![64, 128]⟩
abbrev S128 : Shape := ⟨1, ![128]⟩
abbrev S_ : Shape := ⟨0, ![]⟩
abbrev S16384x1 : Shape := ⟨2, ![16384, 1]⟩
abbrev S16384x20 : Shape := ⟨2, ![16384, 20]⟩
abbrev S3x16384 : Shape := ⟨2, ![3, 16384]⟩
abbrev S20x128 : Shape := ⟨2, ![20, 128]⟩
abbrev S3x64 : Shape := ⟨2, ![3, 64]⟩
abbrev S1 : Shape := ⟨1, ![1]⟩
abbrev S2 : Shape := ⟨1, ![2]⟩
abbrev S16x64 : Shape := ⟨2, ![16, 64]⟩
abbrev S1x128 : Shape := ⟨2, ![1, 128]⟩
abbrev S1x64 : Shape := ⟨2, ![1, 64]⟩
abbrev S16384x64 : Shape := ⟨2, ![16384, 64]⟩
abbrev S1024x20 : Shape := ⟨2, ![1024, 20]⟩
abbrev S3x1024 : Shape := ⟨2, ![3, 1024]⟩
abbrev S1024x64 : Shape := ⟨2, ![1024, 64]⟩
abbrev S1024x1024 : Shape := ⟨2, ![1024, 1024]⟩
abbrev S1024x128 : Shape := ⟨2, ![1024, 128]⟩
abbrev S1024x1 : Shape := ⟨2, ![1024, 1]⟩
abbrev S1x1024 : Shape := ⟨2, ![1, 1024]⟩
abbrev S1024 : Shape := ⟨1, ![1024]⟩
abbrev S1x1024x1 : Shape := ⟨3, ![1, 1024, 1]⟩
abbrev S1x1x1 : Shape := ⟨3, ![1, 1, 1]⟩

abbrev nBuf : Space → Nat
  | .hbm => 58
  | .vmem => 16
  | .smem => 0
  | _ => 0

abbrev bufTy : (tb : Table) → Fin (tcTables nBuf tb) → BufTy
  | .hbm, ⟨0, _⟩ => ⟨S16384x3, .f32⟩
  | .hbm, ⟨1, _⟩ => ⟨S16384x16, .f32⟩
  | .hbm, ⟨2, _⟩ => ⟨S16384, .i32⟩
  | .hbm, ⟨3, _⟩ => ⟨S6x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S32x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S16384x1, .f32⟩
  | .hbm, ⟨15, _⟩ => ⟨S16384x20, .f32⟩
  | .hbm, ⟨16, _⟩ => ⟨S3x16384, .f32⟩
  | .hbm, ⟨17, _⟩ => ⟨S_, .f32⟩
  | .hbm, ⟨18, _⟩ => ⟨S20x128, .f32⟩
  | .hbm, ⟨19, _⟩ => ⟨S3x64, .f32⟩
  | .hbm, ⟨20, _⟩ => ⟨S3x64, .f32⟩
  | .hbm, ⟨21, _⟩ => ⟨S3x64, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S20x128, .f32⟩
  | .hbm, ⟨28, _⟩ => ⟨S16x64, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S20x128, .f32⟩
  | .hbm, ⟨35, _⟩ => ⟨S_, .f32⟩
  | .hbm, ⟨36, _⟩ => ⟨S20x128, .f32⟩
  | .hbm, ⟨37, _⟩ => ⟨S3x64, .f32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S2, .i32⟩
  | .hbm, ⟨43, _⟩ => ⟨S20x128, .f32⟩
  | .hbm, ⟨44, _⟩ => ⟨S16x64, .f32⟩
  | .hbm, ⟨45, _⟩ => ⟨S_, .i32⟩
  | .hbm, ⟨46, _⟩ => ⟨S1, .i32⟩
  | .hbm, ⟨47, _⟩ => ⟨S_, .i32⟩
  | .hbm, ⟨48, _⟩ => ⟨S1, .i32⟩
  | .hbm, ⟨49, _⟩ => ⟨S2, .i32⟩
  | .hbm, ⟨50, _⟩ => ⟨S20x128, .f32⟩
  | .hbm, ⟨51, _⟩ => ⟨S128, .f32⟩
  | .hbm, ⟨52, _⟩ => ⟨S1x128, .f32⟩
  | .hbm, ⟨53, _⟩ => ⟨S1x64, .f32⟩
  | .hbm, ⟨54, _⟩ => ⟨S1x128, .f32⟩
  | .hbm, ⟨55, _⟩ => ⟨S1x64, .f32⟩
  | .hbm, ⟨56, _⟩ => ⟨S1x64, .f32⟩
  | .hbm, ⟨57, _⟩ => ⟨S16384x64, .f32⟩
  | .local _ .vmem, ⟨0, _⟩ => ⟨S1024x20, .f32⟩
  | .local _ .vmem, ⟨1, _⟩ => ⟨S1024x20, .f32⟩
  | .local _ .vmem, ⟨2, _⟩ => ⟨S3x1024, .f32⟩
  | .local _ .vmem, ⟨3, _⟩ => ⟨S3x1024, .f32⟩
  | .local _ .vmem, ⟨4, _⟩ => ⟨S20x128, .f32⟩
  | .local _ .vmem, ⟨5, _⟩ => ⟨S1x128, .f32⟩
  | .local _ .vmem, ⟨6, _⟩ => ⟨S20x128, .f32⟩
  | .local _ .vmem, ⟨7, _⟩ => ⟨S64x64, .f32⟩
  | .local _ .vmem, ⟨8, _⟩ => ⟨S1x64, .f32⟩
  | .local _ .vmem, ⟨9, _⟩ => ⟨S64x128, .f32⟩
  | .local _ .vmem, ⟨10, _⟩ => ⟨S1x128, .f32⟩
  | .local _ .vmem, ⟨11, _⟩ => ⟨S1x64, .f32⟩
  | .local _ .vmem, ⟨12, _⟩ => ⟨S1x64, .f32⟩
  | .local _ .vmem, ⟨13, _⟩ => ⟨S1024x64, .f32⟩
  | .local _ .vmem, ⟨14, _⟩ => ⟨S1024x64, .f32⟩
  | .local _ .vmem, ⟨15, _⟩ => ⟨S1024x1024, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_c_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_2 : Ref sig .tc := ⟨.hbm, 29, rfl⟩
abbrev main_v12 : Ref sig .tc := ⟨.hbm, 30, rfl⟩
abbrev main_c_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_v17 : Ref sig .tc := ⟨.hbm, 37, rfl⟩
abbrev main_c_5 : Ref sig .tc := ⟨.hbm, 38, rfl⟩
abbrev main_v18 : Ref sig .tc := ⟨.hbm, 39, rfl⟩
abbrev main_c_6 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_7 : Ref sig .tc := ⟨.hbm, 45, rfl⟩
abbrev main_v23 : Ref sig .tc := ⟨.hbm, 46, rfl⟩
abbrev main_c_8 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_26 : BitVec 32 := 0#32
  let c9_i32 : BitVec 32 := 9#32
  let v75 : BitVec 32 := Scalar.addi c0_i32_26 c9_i32
  let c1_i32 : BitVec 32 := 1#32
  ⟨c0_i32_26, v75, c1_i32⟩
@[reducible] def k0_t2_loop : Scf.Loop 32 :=
  let c0_i32_85 : BitVec 32 := 0#32
  let c20_i32 : BitVec 32 := 20#32
  let v209 : BitVec 32 := Scalar.addi c0_i32_85 c20_i32
  let c1_i32_86 : BitVec 32 := 1#32
  ⟨c0_i32_85, v209, c1_i32_86⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S20x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S16384x3 : Shape := ⟨2, ![16384, 3]⟩
abbrev S16384x16 : Shape := ⟨2, ![16384, 16]⟩
abbrev S16384 : Shape := ⟨1, ![16384]⟩
abbrev S6x64 : Shape := ⟨2, ![6, 64]⟩
abbrev S64 : Shape := ⟨1, ![64]⟩
abbrev S64x64 : Shape := ⟨2, ![64, 64]⟩
abbrev S32x64 : Shape := ⟨2, ![32, 64]⟩
abbrev S64x128 : Shape := ⟨2, ![64, 128]⟩
abbrev S128 : Shape := ⟨1, ![128]⟩
abbrev S16x1024x3 : Shape := ⟨3, ![16, 1024, 3]⟩
abbrev S16x1024x1x3 : Shape := ⟨4, ![16, 1024, 1, 3]⟩
abbrev S16x1x1024x3 : Shape := ⟨4, ![16, 1, 1024, 3]⟩
abbrev S16x1024x1024x3 : Shape := ⟨4, ![16, 1024, 1024, 3]⟩
abbrev S_ : Shape := ⟨0, ![]⟩
abbrev S16x1024x1024 : Shape := ⟨3, ![16, 1024, 1024]⟩
abbrev S1024x1024 : Shape := ⟨2, ![1024, 1024]⟩
abbrev S1x1024x1024 : Shape := ⟨3, ![1, 1024, 1024]⟩
abbrev S16x1024x20 : Shape := ⟨3, ![16, 1024, 20]⟩
abbrev S16 : Shape := ⟨1, ![16]⟩
abbrev S16x1x1 : Shape := ⟨3, ![16, 1, 1]⟩
abbrev S327680 : Shape := ⟨1, ![327680]⟩
abbrev S1024 : Shape := ⟨1, ![1024]⟩
abbrev S1x1024x1 : Shape := ⟨3, ![1, 1024, 1]⟩
abbrev S16x1024x1 : Shape := ⟨3, ![16, 1024, 1]⟩
abbrev S327680x1 : Shape := ⟨2, ![327680, 1]⟩
abbrev S327680x3 : Shape := ⟨2, ![327680, 3]⟩
abbrev S327680x6 : Shape := ⟨2, ![327680, 6]⟩
abbrev S327680x64 : Shape := ⟨2, ![327680, 64]⟩
abbrev S1x64 : Shape := ⟨2, ![1, 64]⟩
abbrev S327680x16 : Shape := ⟨2, ![327680, 16]⟩
abbrev S327680x32 : Shape := ⟨2, ![327680, 32]⟩
abbrev S327680x128 : Shape := ⟨2, ![327680, 128]⟩
abbrev S1x128 : Shape := ⟨2, ![1, 128]⟩
abbrev S16384x20x64 : Shape := ⟨3, ![16384, 20, 64]⟩
abbrev S16384x64 : Shape := ⟨2, ![16384, 64]⟩
abbrev S16384x1 : Shape := ⟨2, ![16384, 1]⟩

abbrev nBuf : Space → Nat
  | .hbm => 182
  | .vmem => 0
  | .smem => 0
  | _ => 0

abbrev hbmTy0_0 (i : Nat) : BufTy := match i % 128 with
  | 0 => ⟨S16384x3, .f32⟩
  | 1 => ⟨S16384x16, .f32⟩
  | 2 => ⟨S16384, .i32⟩
  | 3 => ⟨S6x64, .f32⟩
  | 4 => ⟨S64, .f32⟩
  | 5 => ⟨S64x64, .f32⟩
  | 6 => ⟨S64, .f32⟩
  | 7 => ⟨S32x64, .f32⟩
  | 8 => ⟨S64, .f32⟩
  | 9 => ⟨S64x128, .f32⟩
  | 10 => ⟨S128, .f32⟩
  | 11 => ⟨S64, .f32⟩
  | 12 => ⟨S64, .f32⟩
  | 13 => ⟨S16x1024x3, .f32⟩
  | 14 => ⟨S16x1024x1x3, .f32⟩
  | 15 => ⟨S16x1x1024x3, .f32⟩
  | 16 => ⟨S16x1024x1024x3, .f32⟩
  | 17 => ⟨S16x1024x1024x3, .f32⟩
  | 18 => ⟨S16x1024x1024x3, .f32⟩
  | 19 => ⟨S16x1024x1024x3, .f32⟩
  | 20 => ⟨S_, .f32⟩
  | 21 => ⟨S16x1024x1024, .f32⟩
  | 22 => ⟨S1024x1024, .i32⟩
  | 23 => ⟨S1024x1024, .i32⟩
  | 24 => ⟨S_, .i32⟩
  | 25 => ⟨S1024x1024, .i32⟩
  | 26 => ⟨S1024x1024, .i32⟩
  | 27 => ⟨S1024x1024, .i1⟩
  | 28 => ⟨S1024x1024, .f32⟩
  | 29 => ⟨S1x1024x1024, .f32⟩
  | 30 => ⟨S_, .f32⟩
  | 31 => ⟨S1x1024x1024, .f32⟩
  | 32 => ⟨S1x1024x1024, .f32⟩
  | 33 => ⟨S16x1024x1024, .f32⟩
  | 34 => ⟨S16x1024x1024, .f32⟩
  | 35 => ⟨S16x1024x1024, .f32⟩
  | 36 => ⟨S16x1024x20, .f32⟩
  | 37 => ⟨S16x1024x20, .i32⟩
  | 38 => ⟨S16, .i32⟩
  | 39 => ⟨S_, .i32⟩
  | 40 => ⟨S16, .i32⟩
  | 41 => ⟨S16, .i32⟩
  | 42 => ⟨S16x1x1, .i32⟩
  | 43 => ⟨S16x1024x20, .i32⟩
  | 44 => ⟨S16x1024x20, .i32⟩
  | 45 => ⟨S327680, .i32⟩
  | 46 => ⟨S1024, .i32⟩
  | 47 => ⟨S1x1024x1, .i32⟩
  | 48 => ⟨S16x1024x1, .i32⟩
  | 49 => ⟨S16x1024x1, .i32⟩
  | 50 => ⟨S16x1024x1, .i32⟩
  | 51 => ⟨S16x1024x20, .i32⟩
  | 52 => ⟨S327680, .i32⟩
  | 53 => ⟨S_, .i32⟩
  | 54 => ⟨S327680, .i32⟩
  | 55 => ⟨S327680, .i1⟩
  | 56 => ⟨S_, .i32⟩
  | 57 => ⟨S327680, .i32⟩
  | 58 => ⟨S327680, .i32⟩
  | 59 => ⟨S327680, .i32⟩
  | 60 => ⟨S327680x1, .i32⟩
  | 61 => ⟨S327680x3, .f32⟩
  | 62 => ⟨S_, .i32⟩
  | 63 => ⟨S327680, .i32⟩
  | 64 => ⟨S327680, .i1⟩
  | 65 => ⟨S_, .i32⟩
  | 66 => ⟨S327680, .i32⟩
  | 67 => ⟨S327680, .i32⟩
  | 68 => ⟨S327680, .i32⟩
  | 69 => ⟨S327680x1, .i32⟩
  | 70 => ⟨S327680x3, .f32⟩
  | 71 => ⟨S327680x3, .f32⟩
  | 72 => ⟨S327680x6, .f32⟩
  | 73 => ⟨S327680x64, .f32⟩
  | 74 => ⟨S1x64, .f32⟩
  | 75 => ⟨S327680x64, .f32⟩
  | 76 => ⟨S327680x64, .f32⟩
  | 77 => ⟨S_, .f32⟩
  | 78 => ⟨S327680x64, .f32⟩
  | 79 => ⟨S327680x64, .f32⟩
  | 80 => ⟨S327680x64, .f32⟩
  | 81 => ⟨S1x64, .f32⟩
  | 82 => ⟨S327680x64, .f32⟩
  | 83 => ⟨S327680x64, .f32⟩
  | 84 => ⟨S_, .f32⟩
  | 85 => ⟨S327680x64, .f32⟩
  | 86 => ⟨S327680x64, .f32⟩
  | 87 => ⟨S_, .i32⟩
  | 88 => ⟨S327680, .i32⟩
  | 89 => ⟨S327680, .i1⟩
  | 90 => ⟨S_, .i32⟩
  | 91 => ⟨S327680, .i32⟩
  | 92 => ⟨S327680, .i32⟩
  | 93 => ⟨S327680, .i32⟩
  | 94 => ⟨S327680x1, .i32⟩
  | 95 => ⟨S327680x16, .f32⟩
  | 96 => ⟨S_, .i32⟩
  | 97 => ⟨S327680, .i32⟩
  | 98 => ⟨S327680, .i1⟩
  | 99 => ⟨S_, .i32⟩
  | 100 => ⟨S327680, .i32⟩
  | 101 => ⟨S327680, .i32⟩
  | 102 => ⟨S327680, .i32⟩
  | 103 => ⟨S327680x1, .i32⟩
  | 104 => ⟨S327680x16, .f32⟩
  | 105 => ⟨S327680x32, .f32⟩
  | 106 => ⟨S327680x64, .f32⟩
  | 107 => ⟨S1x64, .f32⟩
  | 108 => ⟨S327680x64, .f32⟩
  | 109 => ⟨S327680x64, .f32⟩
  | 110 => ⟨S_, .f32⟩
  | 111 => ⟨S327680x64, .f32⟩
  | 112 => ⟨S327680x64, .f32⟩
  | 113 => ⟨S327680x128, .f32⟩
  | 114 => ⟨S1x128, .f32⟩
  | 115 => ⟨S327680x128, .f32⟩
  | 116 => ⟨S327680x128, .f32⟩
  | 117 => ⟨S327680x64, .f32⟩
  | 118 => ⟨S_, .f32⟩
  | 119 => ⟨S327680x64, .f32⟩
  | 120 => ⟨S327680x64, .f32⟩
  | 121 => ⟨S327680x64, .f32⟩
  | 122 => ⟨S327680x64, .f32⟩
  | 123 => ⟨S_, .f32⟩
  | 124 => ⟨S327680x64, .f32⟩
  | 125 => ⟨S327680x64, .f32⟩
  | 126 => ⟨S_, .f32⟩
  | 127 => ⟨S327680x64, .f32⟩
  | _ => ⟨S16384x3, .f32⟩

abbrev hbmTy0_1 (i : Nat) : BufTy := match i % 128 with
  | 0 => ⟨S327680x64, .f32⟩
  | 1 => ⟨S327680x64, .f32⟩
  | 2 => ⟨S327680x64, .f32⟩
  | 3 => ⟨S327680x64, .f32⟩
  | 4 => ⟨S16384x20x64, .f32⟩
  | 5 => ⟨S_, .f32⟩
  | 6 => ⟨S16384x64, .f32⟩
  | 7 => ⟨S_, .f32⟩
  | 8 => ⟨S16384, .f32⟩
  | 9 => ⟨S16384x1, .f32⟩
  | 10 => ⟨S_, .f32⟩
  | 11 => ⟨S16384x1, .f32⟩
  | 12 => ⟨S16384x1, .f32⟩
  | 13 => ⟨S_, .i32⟩
  | 14 => ⟨S_, .f32⟩
  | 15 => ⟨S16384, .f32⟩
  | 16 => ⟨S16384x1, .f32⟩
  | 17 => ⟨S_, .f32⟩
  | 18 => ⟨S16384x1, .f32⟩
  | 19 => ⟨S16384x1, .f32⟩
  | 20 => ⟨S16384x64, .f32⟩
  | 21 => ⟨S16384x64, .f32⟩
  | 22 => ⟨S16384x64, .f32⟩
  | 23 => ⟨S_, .f32⟩
  | 24 => ⟨S_, .f32⟩
  | 25 => ⟨S_, .f32⟩
  | 26 => ⟨S_, .f32⟩
  | 27 => ⟨S16384, .f32⟩
  | 28 => ⟨S16384x1, .f32⟩
  | 29 => ⟨S16384x1, .f32⟩
  | 30 => ⟨S16384x1, .f32⟩
  | 31 => ⟨S_, .f32⟩
  | 32 => ⟨S_, .i1⟩
  | 33 => ⟨S_, .f32⟩
  | 34 => ⟨S_, .f32⟩
  | 35 => ⟨S16384x1, .f32⟩
  | 36 => ⟨S16384x1, .f32⟩
  | 37 => ⟨S16384x64, .f32⟩
  | 38 => ⟨S16384x64, .f32⟩
  | 39 => ⟨S_, .f32⟩
  | 40 => ⟨S16384x1, .f32⟩
  | 41 => ⟨S16384x1, .f32⟩
  | 42 => ⟨S16384x1, .f32⟩
  | 43 => ⟨S16384x64, .f32⟩
  | 44 => ⟨S16384x64, .f32⟩
  | 45 => ⟨S1x64, .f32⟩
  | 46 => ⟨S16384x64, .f32⟩
  | 47 => ⟨S16384x64, .f32⟩
  | 48 => ⟨S1x64, .f32⟩
  | 49 => ⟨S16384x64, .f32⟩
  | 50 => ⟨S16384x64, .f32⟩
  | 51 => ⟨S_, .f32⟩
  | 52 => ⟨S16384x64, .f32⟩
  | 53 => ⟨S16384x64, .f32⟩
  | _ => ⟨S16384x3, .f32⟩

abbrev hbmTy (i : Nat) : BufTy := match i / 128 with
  | 0 => hbmTy0_0 i
  | 1 => hbmTy0_1 i
  | _ => ⟨S16384x3, .f32⟩

abbrev bufTy : (tb : Table) → Fin (tcTables nBuf tb) → BufTy
  | .hbm, ⟨i, _⟩ => hbmTy i
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_values : Ref sig .tc := ⟨.hbm, 36, rfl⟩
abbrev main_indices : Ref sig .tc := ⟨.hbm, 37, rfl⟩
abbrev main_v20 : Ref sig .tc := ⟨.hbm, 38, rfl⟩
abbrev main_c_1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_2 : Ref sig .tc := ⟨.hbm, 53, rfl⟩
abbrev main_v34 : Ref sig .tc := ⟨.hbm, 54, rfl⟩
abbrev main_v35 : Ref sig .tc := ⟨.hbm, 55, rfl⟩
abbrev main_c_3 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_4 : Ref sig .tc := ⟨.hbm, 62, rfl⟩
abbrev main_v41 : Ref sig .tc := ⟨.hbm, 63, rfl⟩
abbrev main_v42 : Ref sig .tc := ⟨.hbm, 64, rfl⟩
abbrev main_c_5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call0_cst : Ref sig .tc := ⟨.hbm, 77, rfl⟩
abbrev main_call0_v0 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_c_6 : Ref sig .tc := ⟨.hbm, 87, rfl⟩
abbrev main_v60 : Ref sig .tc := ⟨.hbm, 88, rfl⟩
abbrev main_v61 : Ref sig .tc := ⟨.hbm, 89, rfl⟩
abbrev main_c_7 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_8 : Ref sig .tc := ⟨.hbm, 96, rfl⟩
abbrev main_v67 : Ref sig .tc := ⟨.hbm, 97, rfl⟩
abbrev main_v68 : Ref sig .tc := ⟨.hbm, 98, rfl⟩
abbrev main_c_9 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_call2_cst : Ref sig .tc := ⟨.hbm, 110, rfl⟩
abbrev main_call2_v0 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_10 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_11 : Ref sig .tc := ⟨.hbm, 123, rfl⟩
abbrev main_v89 : Ref sig .tc := ⟨.hbm, 124, rfl⟩
abbrev main_v90 : Ref sig .tc := ⟨.hbm, 125, rfl⟩
abbrev main_cst_12 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_13 : Ref sig .tc := ⟨.hbm, 133, rfl⟩
abbrev main_v97 : Ref sig .tc := ⟨.hbm, 134, rfl⟩
abbrev main_cst_14 : Ref sig .tc := ⟨.hbm, 135, rfl⟩
abbrev main_v98 : Ref sig .tc := ⟨.hbm, 136, rfl⟩
abbrev main_v99 : Ref sig .tc := ⟨.hbm, 137, rfl⟩
abbrev main_cst_15 : Ref sig .tc := ⟨.hbm, 138, rfl⟩
abbrev main_v100 : Ref sig .tc := ⟨.hbm, 139, rfl⟩
abbrev main_v101 : Ref sig .tc := ⟨.hbm, 140, rfl⟩
abbrev main_c_16 : Ref sig .tc := ⟨.hbm, 141, rfl⟩
abbrev main_call3_cst : Ref sig .tc := ⟨.hbm, 142, rfl⟩
abbrev main_call3_v0 : Ref sig .tc := ⟨.hbm, 143, rfl⟩
abbrev main_call3_v1 : Ref sig .tc := ⟨.hbm, 144, rfl⟩
abbrev main_call3_cst_0 : Ref sig .tc := ⟨.hbm, 145, rfl⟩
abbrev main_call3_v2 : Ref sig .tc := ⟨.hbm, 146, rfl⟩
abbrev main_call3_v3 : Ref sig .tc := ⟨.hbm, 147, rfl⟩
abbrev main_call3_v4 : Ref sig .tc := ⟨.hbm, 148, rfl⟩
abbrev main_call3_v5 : Ref sig .tc := ⟨.hbm, 149, rfl⟩
abbrev main_call3_v6 : Ref sig .tc := ⟨.hbm, 150, rfl⟩
abbrev main_call3_v7 : Ref sig .tc := ⟨.hbm, 151, rfl⟩
abbrev main_call3_cst_1 : Ref sig .tc := ⟨.hbm, 152, rfl⟩
abbrev main_call3_v8 : Ref sig .tc := ⟨.hbm, 153, rfl⟩
abbrev main_call3_cst_2 : Ref sig .tc := ⟨.hbm, 154, rfl⟩
abbrev main_call3_v9 : Ref sig .tc := ⟨.hbm, 155, rfl⟩
abbrev main_call3_v10 : Ref sig .tc := ⟨.hbm, 156, rfl⟩
abbrev main_call3_v11 : Ref sig .tc := ⟨.hbm, 157, rfl⟩
abbrev main_call3_v12 : Ref sig .tc := ⟨.hbm, 158, rfl⟩
abbrev main_call3_cst_3 : Ref sig .tc := ⟨.hbm, 159, rfl⟩
abbrev main_call3_v13 : Ref sig .tc := ⟨.hbm, 160, rfl⟩
abbrev main_call3_cst_4 : Ref sig .tc := ⟨.hbm, 161, rfl⟩
abbrev main_call3_call0_v0 : Ref sig .tc := ⟨.hbm, 162, rfl⟩
abbrev main_call3_call0_v1 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_cst_17 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_call4_cst : Ref sig .tc := ⟨.hbm, 179, rfl⟩
abbrev main_call4_v0 : Ref sig .tc := ⟨.hbm, 180, rfl⟩
abbrev main_v116 : Ref sig .tc := ⟨.hbm, 181, rfl⟩

abbrev nD : Nat := 1
abbrev τ : Topo := Topo.v7x

variable {F : FTy → Type} [FloatOps F]
-- ==== Proof.Body.lean ====
/- What the kernel's body computes, as functions of the blocks it reads, in any arithmetic `F`: the fast search that
   takes every minimum of the distance block at once, twice a trip; the search that takes one minimum a trip; and the
   block it stores. Below, one trip of each loop and the loops' invariants in these terms. -/
module

public import proofs.«01_k».proof.Proof.Gen.KernelIdeal.Skeleton
public import Idealize.ShloMosaic.Lib.Pipeline.Value
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

theorem hz : (![0, 0] : Fin 2 → Nat) = fun _ => 0 := funext fun a => by fin_cases a <;> rfl

/-! ## The values -/

/-- What the fast loop carries: running maximum, number of neighbours taken, the two neighbours' features, row minimum. -/
abbrev Fast (F : FTy → Type) [FloatOps F] : Type :=
  FVec F S1024x64 .f32 × FVec F S1024x1 .f32 × FVec F S1024x20 .f32 × FVec F S1024x20 .f32 × FVec F S1024x1 .f32

/-- The second layer's weights as the body reads them. -/
structure Wts (F : FTy → Type) [FloatOps F] where
  wcat : Vec F S20x128 .f32
  w2 : Vec F S64x64 .f32
  b2 : Vec F S1x64 .f32
  a2 : Vec F S64x128 .f32
  ab2 : Vec F S1x128 .f32

/-- The message of a first neighbour `n`, joined into the running maximum. -/
def joinA (W : Wts F) (v8 : FVec F S1024x128 .f32) (acc : FVec F S1024x64 .f32) (n : FVec F S1024x20 .f32) : FVec F S1024x64 .f32 :=
  k0_pay15 acc (k0_pay12 v8 n W.wcat) (k0_pay13 v8 n W.wcat W.w2) (k0_pay14 W.b2) W.a2 W.ab2

/-- The message of a second neighbour `n`, joined into the running maximum. -/
def joinB (W : Wts F) (v8 : FVec F S1024x128 .f32) (acc : FVec F S1024x64 .f32) (n : FVec F S1024x20 .f32) : FVec F S1024x64 .f32 :=
  k0_pay39 acc (k0_pay17 v8 n W.wcat W.w2 W.b2) (k0_pay18 v8 n W.wcat W.a2) (k0_pay19 W.ab2)

/-- One trip of the fast search, on the carried values `p` and the distance block `s`. -/
def fastStep (W : Wts F) (v1 : FVec F S1024x20 .f32) (v8 : FVec F S1024x128 .f32) (p : Fast F) (s : FVec F S1024x1024 .f32) : Fast F :=
  (joinB W v8 (joinA W v8 p.1 p.2.2.1) p.2.2.2.1, k0_pay10 v1 p.2.1 p.2.2.2.2 s, k0_pay8 v1 p.2.2.2.2 s,
    k0_pay9 v1 p.2.2.2.2 s, k0_pay7 p.2.2.2.2 s)

/-- The position vector of the one-at-a-time search. -/
abbrev lanes : IVec S1024x1024 32 := iota .tc S1024x1024 32 [1] iota_S1024x1024_d1_w32

/-- One trip of the one-at-a-time search: the message of the neighbour nearest in `s`, joined into `acc`. -/
def slowStep (W : Wts F) (v1 : FVec F S1024x20 .f32) (v8 : FVec F S1024x128 .f32) (ln : IVec S1024x1024 32)
    (acc : FVec F S1024x64 .f32) (s : FVec F S1024x1024 .f32) : FVec F S1024x64 .f32 :=
  k0_pay48 acc (k0_pay23 v1 v8 ln s W.wcat) (k0_pay24 v1 v8 ln s W.wcat W.w2 W.b2) W.a2
    (constant S1024x128 .f32 0x00000000#32) W.ab2

/-- The fast search after `k` trips from the carried values `p` and the distance block `s`. -/
def fastVal (W : Wts F) (v1 : FVec F S1024x20 .f32) (v8 : FVec F S1024x128 .f32) (p : Fast F) (s : FVec F S1024x1024 .f32) :
    ℕ → Fast F × FVec F S1024x1024 .f32
  | 0 => (p, s)
  | k + 1 => (fastStep W v1 v8 (fastVal W v1 v8 p s k).1 (fastVal W v1 v8 p s k).2,
      k0_pay6 (fastVal W v1 v8 p s k).1.2.2.2.2 (fastVal W v1 v8 p s k).2)

/-- The one-at-a-time search after `k` trips from the running maximum `p` and the distance block `s`. -/
def slowVal (W : Wts F) (v1 : FVec F S1024x20 .f32) (v8 : FVec F S1024x128 .f32) (ln : IVec S1024x1024 32) (p : FVec F S1024x64 .f32)
    (s : FVec F S1024x1024 .f32) : ℕ → FVec F S1024x64 .f32 × FVec F S1024x1024 .f32
  | 0 => (p, s)
  | k + 1 => (slowStep W v1 v8 ln (slowVal W v1 v8 ln p s k).1 (slowVal W v1 v8 ln p s k).2, k0_pay21 ln (slowVal W v1 v8 ln p s k).2)

/-- Row `r` of the transposed coordinates. -/
abbrev coordRow (x2 : Vec F S3x1024 .f32) (r : Nat) (h : ∀ a, (![r, 0] : Fin 2 → Nat) a + S1x1024.size a ≤ S3x1024.size a) : Vec F S1x1024 .f32 :=
  View.ld x2 (Rect.unit (s := S3x1024) ![r, 0] S1x1024.size h)

/-- The blocks of distances: as the fast search first forms it, and as the other search forms it again. -/
def dist (x1 : Vec F S1024x20 .f32) (x2 : Vec F S3x1024 .f32) : FVec F S1024x1024 .f32 :=
  k0_pay27 x1 (coordRow x2 0 inb_S3x1024_S1x1024_0_0) (coordRow x2 1 inb_S3x1024_S1x1024_1_0) (coordRow x2 2 inb_S3x1024_S1x1024_2_0)
def distAgain (x1 : Vec F S1024x20 .f32) (x2 : Vec F S3x1024 .f32) : FVec F S1024x1024 .f32 :=
  k0_pay47 (k0_pay25 x1) (coordRow x2 0 inb_S3x1024_S1x1024_0_0) (coordRow x2 1 inb_S3x1024_S1x1024_1_0) (coordRow x2 2 inb_S3x1024_S1x1024_2_0)

/-- What the fast loop starts from: the first two minima, taken before the loop. -/
def fastInit (v1 : FVec F S1024x20 .f32) (v41 : FVec F S1024x1024 .f32) : Fast F :=
  (k0_pay29 (F := F), k0_pay38 v1 v41 (k0_pay28 v41), k0_pay36 v1 v41 (k0_pay28 v41), k0_pay37 v1 v41 (k0_pay28 v41), k0_pay35 v41 (k0_pay28 v41))

/-- The fast search's nine trips. -/
def fastEnd (W : Wts F) (x1 : Vec F S1024x20 .f32) (x2 : Vec F S3x1024 .f32) (v8 : FVec F S1024x128 .f32) : Fast F :=
  (fastVal W (k0_pay25 x1) v8 (fastInit (k0_pay25 x1) (dist x1 x2)) (k0_pay34 (dist x1 x2) (k0_pay28 (dist x1 x2))) 9).1

/-- The fast search's maximum: its trips', then its last two neighbours' messages. -/
def fastMax (W : Wts F) (v8 : FVec F S1024x128 .f32) (p : Fast F) : FVec F S1024x64 .f32 :=
  k0_pay45 (k0_pay41 v8 p.1 (k0_pay40 p.2.2.1 W.wcat) W.w2 W.b2 W.a2 W.ab2) (k0_pay43 v8 p.2.2.2.1 W.wcat)
    (k0_pay44 v8 p.2.2.2.1 W.wcat W.w2) W.b2 W.a2 W.ab2

/-- The other search's maximum. -/
def slowMax (W : Wts F) (x1 : Vec F S1024x20 .f32) (x2 : Vec F S3x1024 .f32) (v8 : FVec F S1024x128 .f32) : FVec F S1024x64 .f32 :=
  (slowVal W (k0_pay25 x1) v8 lanes (k0_pay29 (F := F)) (distAgain x1 x2) 20).1

/-- The fast search took one neighbour at every minimum: the count is the number of rows times twenty. -/
abbrev Single (n : FVec F S1024x1 .f32) : Prop :=
  Scalar.cmpi .ne ((Scalar.extui (Scalar.cmpf .oeq (k0_pay46 n) (Scalar.ofBits .f32 0x46A00000#32)) : BitVec 32)) 0#32 = 1#1

/-- The maximum the body takes on. -/
def bodyMax (W : Wts F) (x1 : Vec F S1024x20 .f32) (x2 : Vec F S3x1024 .f32) (v8 : FVec F S1024x128 .f32) : FVec F S1024x64 .f32 :=
  if Single (fastEnd W x1 x2 v8).2.1 then fastMax W v8 (fastEnd W x1 x2 v8) else slowMax W x1 x2 v8

/-- The block the body stores. -/
def bodyOut (x1 : Vec F S1024x20 .f32) (x2 : Vec F S3x1024 .f32) (x3 : Vec F S20x128 .f32) (x4 : Vec F S1x128 .f32) (W : Wts F)
    (x10 x11 : Vec F S1x64 .f32) : FVec F S1024x64 .f32 :=
  k0_pay1 (k0_pay49 (bodyMax W x1 x2 (k0_pay26 x1 x3 x4))) x10 x11

/-! ## One trip, and the loops -/

section Loops

variable (c : Dev nD) (i : grid0.Coords)
  (arg1 : Memref sig .tc .vmem S1024x20 .f32) (harg1 : arg1.IsWhole) (arg2 : Memref sig .tc .vmem S3x1024 .f32) (harg2 : arg2.IsWhole)
  (arg3 : Memref sig .tc .vmem S20x128 .f32) (harg3 : arg3.IsWhole) (arg4 : Memref sig .tc .vmem S1x128 .f32) (harg4 : arg4.IsWhole)
  (arg5 : Memref sig .tc .vmem S20x128 .f32) (harg5 : arg5.IsWhole) (arg6 : Memref sig .tc .vmem S64x64 .f32) (harg6 : arg6.IsWhole)
  (arg7 : Memref sig .tc .vmem S1x64 .f32) (harg7 : arg7.IsWhole) (arg8 : Memref sig .tc .vmem S64x128 .f32) (harg8 : arg8.IsWhole)
  (arg9 : Memref sig .tc .vmem S1x128 .f32) (harg9 : arg9.IsWhole) (arg10 : Memref sig .tc .vmem S1x64 .f32) (harg10 : arg10.IsWhole)
  (arg11 : Memref sig .tc .vmem S1x64 .f32) (harg11 : arg11.IsWhole) (arg12 : Memref sig .tc .vmem S1024x64 .f32) (harg12 : arg12.IsWhole)
  (arg13 : Memref sig .tc .vmem S1024x1024 .f32) (harg13 : arg13.IsWhole)

variable (X5 : BufTy.Contents (Elt F) arg5.view.ty) (X6 : BufTy.Contents (Elt F) arg6.view.ty) (X7 : BufTy.Contents (Elt F) arg7.view.ty)
  (X8 : BufTy.Contents (Elt F) arg8.view.ty) (X9 : BufTy.Contents (Elt F) arg9.view.ty)

/-- The weights the buffers of operands 5 to 9 hold. -/
abbrev wtsOf : Wts F :=
  ⟨arg5.view.read (Elt F) X5, arg6.view.read (Elt F) X6, arg7.view.read (Elt F) X7, arg8.view.read (Elt F) X8, arg9.view.read (Elt F) X9⟩

/-- What a trip touches: the weights, read; the distance block, rewritten. -/
abbrev Res (f : BufTy.Contents (Elt F) arg13.view.ty) : sProp 𝕄G :=
  iprop((arg5.view.loc (c : Thread nD τ) ↦[arg5.view.set]{fullShare} X5) ∗ (arg6.view.loc (c : Thread nD τ) ↦[arg6.view.set]{fullShare} X6)
    ∗ (arg7.view.loc (c : Thread nD τ) ↦[arg7.view.set]{fullShare} X7) ∗ (arg8.view.loc (c : Thread nD τ) ↦[arg8.view.set]{fullShare} X8)
    ∗ (arg9.view.loc (c : Thread nD τ) ↦[arg9.view.set]{fullShare} X9) ∗ (arg13.view.loc (c : Thread nD τ) ↦[arg13.view.set]{fullShare} f))

/-- Writing a whole block leaves it. -/
theorem writes_whole {S : Shape} (mr : Memref sig .tc .vmem S .f32) (h : mr.IsWhole) (f : BufTy.Contents (Elt F) mr.view.ty)
    {off : Fin S.rank → Nat} (ho : off = fun _ => 0) (inb : ∀ a, off a + S.size a ≤ S.size a) (w : S.Idx → Elt F .f32)
    (L : List (View.Piece (Elt F) S .f32)) :
    mr.view.writes (Elt F) f (⟨Rect.unit (s := S) off S.size inb, w⟩ :: L) = h.unread w := by
  refine h.eq_unread ?_
  rw [View.read_writes_eq_canon _ _ _ fun y => ⟨_, List.mem_cons_self, View.mem_set_unit_zero ho inb y⟩, View.canon_cons_unit_zero ho]

/-- Reading a whole block reads it. -/
theorem readAt_whole {n : Fin 2 → Nat} (mr : Memref sig .tc .vmem ⟨2, n⟩ .f32) (f : BufTy.Contents (Elt F) mr.view.ty)
    (inb : ∀ a, (![0, 0] : Fin 2 → Nat) a + n a ≤ n a) :
    mr.view.readAt (Elt F) (Rect.unit (s := ⟨2, n⟩) ![0, 0] n inb).toLoadRect f = mr.view.read (Elt F) f := by
  rw [View.readAt_eq_ld]
  exact View.ld_unit_zero (S := ⟨2, n⟩) hz inb _

/-- Reading what was last written whole reads that. -/
theorem read_writes_whole {n : Fin 2 → Nat} (mr : Memref sig .tc .vmem ⟨2, n⟩ .f32) (h : mr.IsWhole) (f : BufTy.Contents (Elt F) mr.view.ty)
    (inb : ∀ a, (![0, 0] : Fin 2 → Nat) a + n a ≤ n a) (w : Shape.Idx ⟨2, n⟩ → Elt F .f32) (L : List (View.Piece (Elt F) ⟨2, n⟩ .f32)) :
    mr.view.read (Elt F) (mr.view.writes (Elt F) f (⟨Rect.unit (s := ⟨2, n⟩) ![0, 0] n inb, w⟩ :: L)) = w := by
  rw [writes_whole mr h f hz, h.read_unread]

/-- One trip of the fast loop, on any contents of the distance block. -/
theorem trip1 (bd : Option Variants.none.V) (v1 : FVec F S1024x20 .f32) (v8 : FVec F S1024x128 .f32) (v41 : FVec F S1024x1024 .f32)
    (k : Fin k0_t1_loop.trips) (E : Set ℕ) (p : Fast F) (f : BufTy.Contents (Elt F) arg13.view.ty) :
    Res c arg5 arg6 arg7 arg8 arg9 arg13 X5 X6 X7 X8 X9 f
    ⊢ wp frame (wpE (defs₀ (F := F)) Variants.none (c : Thread nD τ) bd) E
        (k0_t1_body (F := F) i arg1 harg1 arg2 harg2 arg3 harg3 arg4 harg4 arg5 harg5 arg6 harg6 arg7 harg7 arg8 harg8 arg9 harg9 arg10 harg10 arg11 harg11 arg12 harg12 arg13 harg13 v1 v8 v41 k p)
        (fun y => iprop(⌜y = fastStep (wtsOf arg5 arg6 arg7 arg8 arg9 X5 X6 X7 X8 X9) v1 v8 p (arg13.view.read (Elt F) f)⌝ ∗ Res c arg5 arg6 arg7 arg8 arg9 arg13 X5 X6 X7 X8 X9 (harg13.unread (k0_pay6 p.2.2.2.2 (arg13.view.read (Elt F) f))))) := by
  have hk : k.val < 9 := Nat.lt_of_lt_of_le k.isLt k0_t1_abs.2.1
  unfold k0_t1_body
  iintro ⟨H5, H6, H7, H8, H9, HS⟩
  sl_exec
  sl_step
  isplitr
  · ipureintro
    sl_unfold_words
    simp only [readAt_whole]
    rfl
  · rw [writes_whole arg13 harg13 f hz]
    simp only [readAt_whole]
    isplitl [H5]; · iexact H5
    isplitl [H6]; · iexact H6
    isplitl [H7]; · iexact H7
    isplitl [H8]; · iexact H8
    isplitl [H9]; · iexact H9
    iexact HS

variable (v1 : FVec F S1024x20 .f32) (v8 : FVec F S1024x128 .f32)

/-- What the trips before the `k`-th leave in the distance block's buffer, `s k` the block then: nothing before the first. -/
def pieces (s : ℕ → FVec F S1024x1024 .f32) : ℕ → List (View.Piece (Elt F) S1024x1024 .f32)
  | 0 => []
  | k + 1 => [⟨Rect.unit (s := S1024x1024) ![0, 0] S1024x1024.size inb_S1024x1024_S1024x1024_0_0, s (k + 1)⟩]

include harg13 in
/-- A trip's writes leave the block of that trip. -/
theorem writes_pieces (G : BufTy.Contents (Elt F) arg13.view.ty) (s : ℕ → FVec F S1024x1024 .f32) (k : ℕ) :
    arg13.view.writes (Elt F) G (pieces s (k + 1)) = harg13.unread (s (k + 1)) :=
  writes_whole arg13 harg13 G hz inb_S1024x1024_S1024x1024_0_0 (s (k + 1)) []

include harg13 in
/-- Read back, they are the block. -/
theorem read_pieces (G : BufTy.Contents (Elt F) arg13.view.ty) (s : ℕ → FVec F S1024x1024 .f32) (h0 : s 0 = arg13.view.read (Elt F) G) (k : ℕ) :
    arg13.view.read (Elt F) (arg13.view.writes (Elt F) G (pieces s k)) = s k := by
  cases k with
  | zero => exact h0.symm
  | succ k => rw [writes_pieces arg13 harg13, harg13.read_unread]

set_option warn.classDefReducibility false in
/-- The fast loop, by what it carries before each trip. -/
@[sl_loop] def loop1 (bd : Option Variants.none.V) (E : Set ℕ) (v41 : FVec F S1024x1024 .f32) (p : Fast F) (G : BufTy.Contents (Elt F) arg13.view.ty) :
    LoopInv (M := 𝕄G) Idealize.ShloMosaic.frame (wpE (defs₀ (F := F)) Variants.none (c : Thread nD τ) bd) E
      k0_t1_loop.lb k0_t1_loop.ub k0_t1_loop.st k0_t1_ok p (k0_t1_body (F := F) i arg1 harg1 arg2 harg2 arg3 harg3 arg4 harg4 arg5 harg5 arg6 harg6 arg7 harg7 arg8 harg8 arg9 harg9 arg10 harg10 arg11 harg11 arg12 harg12 arg13 harg13 v1 v8 v41) where
  inv k y := iprop((arg5.view.loc (c : Thread nD τ) ↦[arg5.view.set]{fullShare} X5) ∗ (arg6.view.loc (c : Thread nD τ) ↦[arg6.view.set]{fullShare} X6)
    ∗ (arg7.view.loc (c : Thread nD τ) ↦[arg7.view.set]{fullShare} X7) ∗ (arg8.view.loc (c : Thread nD τ) ↦[arg8.view.set]{fullShare} X8)
    ∗ (arg9.view.loc (c : Thread nD τ) ↦[arg9.view.set]{fullShare} X9)
    ∗ (∃ f, (arg13.view.loc (c : Thread nD τ) ↦[arg13.view.set]{fullShare} f) ∗ ⌜f = arg13.view.writes (Elt F) G (pieces (fun k => (fastVal (wtsOf arg5 arg6 arg7 arg8 arg9 X5 X6 X7 X8 X9) v1 v8 p (arg13.view.read (Elt F) G) k).2) k)⌝) ∗ ⌜y = (fastVal (wtsOf arg5 arg6 arg7 arg8 arg9 X5 X6 X7 X8 X9) v1 v8 p (arg13.view.read (Elt F) G) k).1⌝)
  step k y := by
    iintro ⟨H5, H6, H7, H8, H9, ⟨%f, HS, %hf⟩, %hy⟩
    subst hy
    have hr : arg13.view.read (Elt F) f = (fastVal (wtsOf arg5 arg6 arg7 arg8 arg9 X5 X6 X7 X8 X9) v1 v8 p (arg13.view.read (Elt F) G) k).2 := by
      rw [hf]; exact read_pieces arg13 harg13 G (fun k => (fastVal (wtsOf arg5 arg6 arg7 arg8 arg9 X5 X6 X7 X8 X9) v1 v8 p (arg13.view.read (Elt F) G) k).2) rfl k
    iapply (wp_wand_r Idealize.ShloMosaic.frame (wpE (defs₀ (F := F)) Variants.none (c : Thread nD τ) bd) E)
    isplitl [H5 H6 H7 H8 H9 HS]
    · iapply (trip1 c i arg1 harg1 arg2 harg2 arg3 harg3 arg4 harg4 arg5 harg5 arg6 harg6 arg7 harg7 arg8 harg8 arg9 harg9 arg10 harg10 arg11 harg11 arg12 harg12 arg13 harg13 X5 X6 X7 X8 X9 bd v1 v8 v41 k E (fastVal (wtsOf arg5 arg6 arg7 arg8 arg9 X5 X6 X7 X8 X9) v1 v8 p (arg13.view.read (Elt F) G) k).1 f)
      isplitl [H5]; · iexact H5
      isplitl [H6]; · iexact H6
      isplitl [H7]; · iexact H7
      isplitl [H8]; · iexact H8
      isplitl [H9]; · iexact H9
      iexact HS
    · iintro %y' ⟨%h, H5, H6, H7, H8, H9, HS⟩
      rw [hr] at h
      isplitl [H5]; · iexact H5
      isplitl [H6]; · iexact H6
      isplitl [H7]; · iexact H7
      isplitl [H8]; · iexact H8
      isplitl [H9]; · iexact H9
      isplitl [HS]
      · iexists _; isplitl [HS]; · iexact HS
        ipureintro
        rw [hr]
        rw [writes_pieces arg13 harg13]; rfl
      ipureintro; exact h

/-- One trip of the one-at-a-time loop, on any contents of the distance block. -/
theorem trip2 (bd : Option Variants.none.V) (v1 : FVec F S1024x20 .f32) (v8 : FVec F S1024x128 .f32) (v47 : FVec F S1024x64 .f32) (v76_1 : FVec F S1024x1 .f32) (v106 : FVec F S1024x64 .f32) (v114 : FVec F S1024x64 .f32) (v116 : FVec F S1024x64 .f32) (v117 : Vec F S1x64 .f32) (v208 : IVec S1024x1024 32)
    (k : Fin k0_t2_loop.trips) (E : Set ℕ) (p : FVec F S1024x64 .f32) (f : BufTy.Contents (Elt F) arg13.view.ty) :
    Res c arg5 arg6 arg7 arg8 arg9 arg13 X5 X6 X7 X8 X9 f
    ⊢ wp frame (wpE (defs₀ (F := F)) Variants.none (c : Thread nD τ) bd) E
        (k0_t2_body (F := F) i arg1 harg1 arg2 harg2 arg3 harg3 arg4 harg4 arg5 harg5 arg6 harg6 arg7 harg7 arg8 harg8 arg9 harg9 arg10 harg10 arg11 harg11 arg12 harg12 arg13 harg13 v1 v8 v47 v76_1 v106 v114 v116 v117 v208 k p)
        (fun y => iprop(⌜y = slowStep (wtsOf arg5 arg6 arg7 arg8 arg9 X5 X6 X7 X8 X9) v1 v8 v208 p (arg13.view.read (Elt F) f)⌝ ∗ Res c arg5 arg6 arg7 arg8 arg9 arg13 X5 X6 X7 X8 X9 (harg13.unread (k0_pay21 v208 (arg13.view.read (Elt F) f))))) := by
  have hk : k.val < 20 := Nat.lt_of_lt_of_le k.isLt k0_t2_abs.2.1
  unfold k0_t2_body
  iintro ⟨H5, H6, H7, H8, H9, HS⟩
  sl_exec
  sl_step
  isplitr
  · ipureintro
    sl_unfold_words
    simp only [readAt_whole]
    rfl
  · rw [writes_whole arg13 harg13 f hz]
    simp only [readAt_whole]
    isplitl [H5]; · iexact H5
    isplitl [H6]; · iexact H6
    isplitl [H7]; · iexact H7
    isplitl [H8]; · iexact H8
    isplitl [H9]; · iexact H9
    iexact HS

set_option warn.classDefReducibility false in
/-- The one-at-a-time loop, by what it carries before each trip. -/
@[sl_loop] def loop2 (bd : Option Variants.none.V) (E : Set ℕ) (v47 : FVec F S1024x64 .f32) (v76_1 : FVec F S1024x1 .f32) (v106 : FVec F S1024x64 .f32) (v114 : FVec F S1024x64 .f32) (v116 : FVec F S1024x64 .f32) (v117 : Vec F S1x64 .f32) (v208 : IVec S1024x1024 32) (p : FVec F S1024x64 .f32) (G : BufTy.Contents (Elt F) arg13.view.ty) :
    LoopInv (M := 𝕄G) Idealize.ShloMosaic.frame (wpE (defs₀ (F := F)) Variants.none (c : Thread nD τ) bd) E
      k0_t2_loop.lb k0_t2_loop.ub k0_t2_loop.st k0_t2_ok p (k0_t2_body (F := F) i arg1 harg1 arg2 harg2 arg3 harg3 arg4 harg4 arg5 harg5 arg6 harg6 arg7 harg7 arg8 harg8 arg9 harg9 arg10 harg10 arg11 harg11 arg12 harg12 arg13 harg13 v1 v8 v47 v76_1 v106 v114 v116 v117 v208) where
  inv k y := iprop((arg5.view.loc (c : Thread nD τ) ↦[arg5.view.set]{fullShare} X5) ∗ (arg6.view.loc (c : Thread nD τ) ↦[arg6.view.set]{fullShare} X6)
    ∗ (arg7.view.loc (c : Thread nD τ) ↦[arg7.view.set]{fullShare} X7) ∗ (arg8.view.loc (c : Thread nD τ) ↦[arg8.view.set]{fullShare} X8)
    ∗ (arg9.view.loc (c : Thread nD τ) ↦[arg9.view.set]{fullShare} X9)
    ∗ (∃ f, (arg13.view.loc (c : Thread nD τ) ↦[arg13.view.set]{fullShare} f) ∗ ⌜f = arg13.view.writes (Elt F) G (pieces (fun k => (slowVal (wtsOf arg5 arg6 arg7 arg8 arg9 X5 X6 X7 X8 X9) v1 v8 v208 p (arg13.view.read (Elt F) G) k).2) k)⌝) ∗ ⌜y = (slowVal (wtsOf arg5 arg6 arg7 arg8 arg9 X5 X6 X7 X8 X9) v1 v8 v208 p (arg13.view.read (Elt F) G) k).1⌝)
  step k y := by
    iintro ⟨H5, H6, H7, H8, H9, ⟨%f, HS, %hf⟩, %hy⟩
    subst hy
    have hr : arg13.view.read (Elt F) f = (slowVal (wtsOf arg5 arg6 arg7 arg8 arg9 X5 X6 X7 X8 X9) v1 v8 v208 p (arg13.view.read (Elt F) G) k).2 := by
      rw [hf]; exact read_pieces arg13 harg13 G (fun k => (slowVal (wtsOf arg5 arg6 arg7 arg8 arg9 X5 X6 X7 X8 X9) v1 v8 v208 p (arg13.view.read (Elt F) G) k).2) rfl k
    iapply (wp_wand_r Idealize.ShloMosaic.frame (wpE (defs₀ (F := F)) Variants.none (c : Thread nD τ) bd) E)
    isplitl [H5 H6 H7 H8 H9 HS]
    · iapply (trip2 c i arg1 harg1 arg2 harg2 arg3 harg3 arg4 harg4 arg5 harg5 arg6 harg6 arg7 harg7 arg8 harg8 arg9 harg9 arg10 harg10 arg11 harg11 arg12 harg12 arg13 harg13 X5 X6 X7 X8 X9 bd v1 v8 v47 v76_1 v106 v114 v116 v117 v208 k E (slowVal (wtsOf arg5 arg6 arg7 arg8 arg9 X5 X6 X7 X8 X9) v1 v8 v208 p (arg13.view.read (Elt F) G) k).1 f)
      isplitl [H5]; · iexact H5
      isplitl [H6]; · iexact H6
      isplitl [H7]; · iexact H7
      isplitl [H8]; · iexact H8
      isplitl [H9]; · iexact H9
      iexact HS
    · iintro %y' ⟨%h, H5, H6, H7, H8, H9, HS⟩
      rw [hr] at h
      isplitl [H5]; · iexact H5
      isplitl [H6]; · iexact H6
      isplitl [H7]; · iexact H7
      isplitl [H8]; · iexact H8
      isplitl [H9]; · iexact H9
      isplitl [HS]
      · iexists _; isplitl [HS]; · iexact HS
        ipureintro
        rw [hr]
        rw [writes_pieces arg13 harg13]; dsimp only [slowVal]
      ipureintro; exact h

end Loops

end Cert.KernelIdeal.Body

end
-- ==== Proof.BodyRun.lean ====
/- The kernel's body, run once over symbolic operands in any arithmetic: it leaves `bodyOut` of what it reads. -/
module

public import proofs.«01_k».proof.Proof.Body

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

section Loops

variable (c : Dev nD) (i : grid0.Coords)
  (arg1 : Memref sig .tc .vmem S1024x20 .f32) (harg1 : arg1.IsWhole) (arg2 : Memref sig .tc .vmem S3x1024 .f32) (harg2 : arg2.IsWhole)
  (arg3 : Memref sig .tc .vmem S20x128 .f32) (harg3 : arg3.IsWhole) (arg4 : Memref sig .tc .vmem S1x128 .f32) (harg4 : arg4.IsWhole)
  (arg5 : Memref sig .tc .vmem S20x128 .f32) (harg5 : arg5.IsWhole) (arg6 : Memref sig .tc .vmem S64x64 .f32) (harg6 : arg6.IsWhole)
  (arg7 : Memref sig .tc .vmem S1x64 .f32) (harg7 : arg7.IsWhole) (arg8 : Memref sig .tc .vmem S64x128 .f32) (harg8 : arg8.IsWhole)
  (arg9 : Memref sig .tc .vmem S1x128 .f32) (harg9 : arg9.IsWhole) (arg10 : Memref sig .tc .vmem S1x64 .f32) (harg10 : arg10.IsWhole)
  (arg11 : Memref sig .tc .vmem S1x64 .f32) (harg11 : arg11.IsWhole) (arg12 : Memref sig .tc .vmem S1024x64 .f32) (harg12 : arg12.IsWhole)
  (arg13 : Memref sig .tc .vmem S1024x1024 .f32) (harg13 : arg13.IsWhole)

variable (X5 : BufTy.Contents (Elt F) arg5.view.ty) (X6 : BufTy.Contents (Elt F) arg6.view.ty) (X7 : BufTy.Contents (Elt F) arg7.view.ty)
  (X8 : BufTy.Contents (Elt F) arg8.view.ty) (X9 : BufTy.Contents (Elt F) arg9.view.ty)

variable (X1 : BufTy.Contents (Elt F) arg1.view.ty) (X2 : BufTy.Contents (Elt F) arg2.view.ty) (X3 : BufTy.Contents (Elt F) arg3.view.ty)
  (X4 : BufTy.Contents (Elt F) arg4.view.ty) (X10 : BufTy.Contents (Elt F) arg10.view.ty) (X11 : BufTy.Contents (Elt F) arg11.view.ty)

/-- The operands the body only reads. -/
abbrev Ins : sProp 𝕄G :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11))

set_option maxHeartbeats 1000000 in
theorem body (bd : Option Variants.none.V) (E : Set ℕ) (f12 : BufTy.Contents (Elt F) arg12.view.ty) (f13 : BufTy.Contents (Elt F) arg13.view.ty) :
    iprop(Ins c arg1 arg2 arg3 arg4 arg5 arg6 arg7 arg8 arg9 arg10 arg11 X5 X6 X7 X8 X9 X1 X2 X3 X4 X10 X11
      ∗ (arg12.view.loc (c : Thread nD τ) ↦[arg12.view.set]{fullShare} f12) ∗ (arg13.view.loc (c : Thread nD τ) ↦[arg13.view.set]{fullShare} f13))
    ⊢ wp frame (wpE (defs₀ (F := F)) Variants.none (c : Thread nD τ) bd) E (cc0__frame_body (F := F) i arg1 harg1 arg2 harg2 arg3 harg3 arg4 harg4 arg5 harg5 arg6 harg6 arg7 harg7 arg8 harg8 arg9 harg9 arg10 harg10 arg11 harg11 arg12 harg12 arg13 harg13)
        (fun _ => iprop(Ins c arg1 arg2 arg3 arg4 arg5 arg6 arg7 arg8 arg9 arg10 arg11 X5 X6 X7 X8 X9 X1 X2 X3 X4 X10 X11
          ∗ (arg12.view.loc (c : Thread nD τ) ↦[arg12.view.set]{fullShare} harg12.unread (bodyOut (arg1.view.read (Elt F) X1) (arg2.view.read (Elt F) X2)
              (arg3.view.read (Elt F) X3) (arg4.view.read (Elt F) X4) (wtsOf arg5 arg6 arg7 arg8 arg9 X5 X6 X7 X8 X9) (arg10.view.read (Elt F) X10) (arg11.view.read (Elt F) X11)))
          ∗ (∃ f, (arg13.view.loc (c : Thread nD τ) ↦[arg13.view.set]{fullShare} f)))) := by
  have ht1 : Scf.trips k0_t1_loop.lb k0_t1_loop.ub k0_t1_loop.st = 9 := by decide
  have ht2 : Scf.trips k0_t2_loop.lb k0_t2_loop.ub k0_t2_loop.st = 20 := by decide
  iintro ⟨⟨H1, H2, H3, H4, H5, H6, H7, H8, H9, H10, H11⟩, H12, H13⟩
  sl_exec
  have er : body.sl.r arg1 X1 = k0_pay25 (arg1.view.read (Elt F) X1) := by unfold body.sl.r; rw [readAt_whole]
  have er1 : body.sl.r_1 arg1 arg3 arg4 X1 X3 X4 = (k0_pay26 (arg1.view.read (Elt F) X1) (arg3.view.read (Elt F) X3) (arg4.view.read (Elt F) X4)) := by unfold body.sl.r_1; rw [readAt_whole, readAt_whole, readAt_whole]
  have er2 : body.sl.r_2 arg1 arg2 X1 X2 = (dist (arg1.view.read (Elt F) X1) (arg2.view.read (Elt F) X2)) := by
    unfold body.sl.r_2; rw [readAt_whole, View.readAt_eq_ld, View.readAt_eq_ld, View.readAt_eq_ld]; rfl
  have e49 : body.sl.v49 arg1 arg2 arg13 X1 X2 = k0_pay28 (dist (arg1.view.read (Elt F) X1) (arg2.view.read (Elt F) X2)) := by
    unfold body.sl.v49 body.sl.H13_1
    rw [View.readCov_unit_zero _ hz, er2]
  have eH : arg13.view.read (Elt F) (arg13.view.writes (Elt F) arg13.view.junk (body.sl.H13_2 arg1 arg2 arg13 X1 X2)) = k0_pay34 (dist (arg1.view.read (Elt F) X1) (arg2.view.read (Elt F) X2)) (k0_pay28 (dist (arg1.view.read (Elt F) X1) (arg2.view.read (Elt F) X2))) := by
    unfold body.sl.H13_2
    rw [read_writes_whole arg13 harg13, er2, e49]
  have ef : fastVal (wtsOf arg5 arg6 arg7 arg8 arg9 X5 X6 X7 X8 X9) (body.sl.r arg1 X1) (body.sl.r_1 arg1 arg3 arg4 X1 X3 X4)
      (k0_pay29, k0_pay38 (body.sl.r arg1 X1) (body.sl.r_2 arg1 arg2 X1 X2) (body.sl.v49 arg1 arg2 arg13 X1 X2),
        k0_pay36 (body.sl.r arg1 X1) (body.sl.r_2 arg1 arg2 X1 X2) (body.sl.v49 arg1 arg2 arg13 X1 X2),
        k0_pay37 (body.sl.r arg1 X1) (body.sl.r_2 arg1 arg2 X1 X2) (body.sl.v49 arg1 arg2 arg13 X1 X2),
        k0_pay35 (body.sl.r_2 arg1 arg2 X1 X2) (body.sl.v49 arg1 arg2 arg13 X1 X2))
      (arg13.view.read (Elt F) (arg13.view.writes (Elt F) arg13.view.junk (body.sl.H13_2 arg1 arg2 arg13 X1 X2)))
      (Scf.trips k0_t1_loop.lb k0_t1_loop.ub k0_t1_loop.st)
      = fastVal (wtsOf arg5 arg6 arg7 arg8 arg9 X5 X6 X7 X8 X9) (k0_pay25 (arg1.view.read (Elt F) X1)) (k0_pay26 (arg1.view.read (Elt F) X1) (arg3.view.read (Elt F) X3) (arg4.view.read (Elt F) X4)) (fastInit (k0_pay25 (arg1.view.read (Elt F) X1)) (dist (arg1.view.read (Elt F) X1) (arg2.view.read (Elt F) X2))) (k0_pay34 (dist (arg1.view.read (Elt F) X1) (arg2.view.read (Elt F) X2)) (k0_pay28 (dist (arg1.view.read (Elt F) X1) (arg2.view.read (Elt F) X2)))) 9 := by
    rw [eH, er, er1, er2, e49, ht1]; rfl
  have e3 : body.sl.r_3 arg1 arg2 arg3 arg4 arg5 arg6 arg7 arg8 arg9 arg13 X5 X6 X7 X8 X9 X1 X2 X3 X4 = (fastEnd (wtsOf arg5 arg6 arg7 arg8 arg9 X5 X6 X7 X8 X9) (arg1.view.read (Elt F) X1) (arg2.view.read (Elt F) X2) (k0_pay26 (arg1.view.read (Elt F) X1) (arg3.view.read (Elt F) X3) (arg4.view.read (Elt F) X4))).1 := by unfold body.sl.r_3; rw [ef]; rfl
  have e4 : body.sl.r_4 arg1 arg2 arg3 arg4 arg5 arg6 arg7 arg8 arg9 arg13 X5 X6 X7 X8 X9 X1 X2 X3 X4 = (fastEnd (wtsOf arg5 arg6 arg7 arg8 arg9 X5 X6 X7 X8 X9) (arg1.view.read (Elt F) X1) (arg2.view.read (Elt F) X2) (k0_pay26 (arg1.view.read (Elt F) X1) (arg3.view.read (Elt F) X3) (arg4.view.read (Elt F) X4))).2.1 := by unfold body.sl.r_4; rw [ef]; rfl
  have e5 : body.sl.r_5 arg1 arg2 arg3 arg4 arg5 arg6 arg7 arg8 arg9 arg13 X5 X6 X7 X8 X9 X1 X2 X3 X4 = (fastEnd (wtsOf arg5 arg6 arg7 arg8 arg9 X5 X6 X7 X8 X9) (arg1.view.read (Elt F) X1) (arg2.view.read (Elt F) X2) (k0_pay26 (arg1.view.read (Elt F) X1) (arg3.view.read (Elt F) X3) (arg4.view.read (Elt F) X4))).2.2.2.1 := by unfold body.sl.r_5; rw [ef]; rfl
  have e6 : body.sl.r_6 arg1 arg2 arg3 arg4 arg5 arg6 arg7 arg8 arg9 arg13 X5 X6 X7 X8 X9 X1 X2 X3 X4 = k0_pay40 (fastEnd (wtsOf arg5 arg6 arg7 arg8 arg9 X5 X6 X7 X8 X9) (arg1.view.read (Elt F) X1) (arg2.view.read (Elt F) X2) (k0_pay26 (arg1.view.read (Elt F) X1) (arg3.view.read (Elt F) X3) (arg4.view.read (Elt F) X4))).2.2.1 (arg5.view.read (Elt F) X5) := by unfold body.sl.r_6; rw [ef, readAt_whole]; rfl
  have hs : body.sl.v143 arg1 arg2 arg3 arg4 arg5 arg6 arg7 arg8 arg9 arg13 X5 X6 X7 X8 X9 X1 X2 X3 X4 = 1#1 ↔ Single (fastEnd (wtsOf arg5 arg6 arg7 arg8 arg9 X5 X6 X7 X8 X9) (arg1.view.read (Elt F) X1) (arg2.view.read (Elt F) X2) (k0_pay26 (arg1.view.read (Elt F) X1) (arg3.view.read (Elt F) X3) (arg4.view.read (Elt F) X4))).2.1 := by
    unfold body.sl.v143 body.sl.v142 body.sl.v141
    rw [e4]; exact Iff.rfl
  by_cases hc : body.sl.v143 arg1 arg2 arg3 arg4 arg5 arg6 arg7 arg8 arg9 arg13 X5 X6 X7 X8 X9 X1 X2 X3 X4 = 1#1
  · sl_exec
    have e : k0_pay1 (body.sl.r_11 arg1 arg2 arg3 arg4 arg5 arg6 arg7 arg8 arg9 arg13 X5 X6 X7 X8 X9 X1 X2 X3 X4)
          (arg10.view.readAt (Elt F) (Rect.unit (s := S1x64) ![0, 0] S1x64.size inb_S1x64_S1x64_0_0).toLoadRect X10)
          (arg11.view.readAt (Elt F) (Rect.unit (s := S1x64) ![0, 0] S1x64.size inb_S1x64_S1x64_0_0).toLoadRect X11)
        = bodyOut (arg1.view.read (Elt F) X1) (arg2.view.read (Elt F) X2) (arg3.view.read (Elt F) X3) (arg4.view.read (Elt F) X4)
            (wtsOf arg5 arg6 arg7 arg8 arg9 X5 X6 X7 X8 X9) (arg10.view.read (Elt F) X10) (arg11.view.read (Elt F) X11) := by
      unfold bodyOut bodyMax
      rw [if_pos (hs.mp hc)]
      unfold body.sl.r_11 body.sl.r_7 body.sl.r_8 body.sl.r_9 body.sl.r_10
      rw [er1, e3, e5, e6]
      simp only [readAt_whole]
      rfl
    sl_step
    isplitl [H1 H2 H3 H4 H5 H6 H7 H8 H9 H10 H11]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    isplitl [H12]
    · rw [writes_whole arg12 harg12 f12 hz, e]
      iexact H12
    · iexists _; iexact H13
  · sl_exec
    have e : k0_pay1 (body.sl.r_12 arg1 arg2 arg3 arg4 arg5 arg6 arg7 arg8 arg9 arg13 X5 X6 X7 X8 X9 X1 X2 X3 X4)
          (arg10.view.readAt (Elt F) (Rect.unit (s := S1x64) ![0, 0] S1x64.size inb_S1x64_S1x64_0_0).toLoadRect X10)
          (arg11.view.readAt (Elt F) (Rect.unit (s := S1x64) ![0, 0] S1x64.size inb_S1x64_S1x64_0_0).toLoadRect X11)
        = bodyOut (arg1.view.read (Elt F) X1) (arg2.view.read (Elt F) X2) (arg3.view.read (Elt F) X3) (arg4.view.read (Elt F) X4)
            (wtsOf arg5 arg6 arg7 arg8 arg9 X5 X6 X7 X8 X9) (arg10.view.read (Elt F) X10) (arg11.view.read (Elt F) X11) := by
      unfold bodyOut bodyMax
      rw [if_neg fun h => hc (hs.mpr h)]
      unfold body.sl.r_12
      rw [er, er1, ht2, read_writes_whole arg13 harg13, View.readAt_eq_ld, View.readAt_eq_ld, View.readAt_eq_ld, readAt_whole, readAt_whole]
      rfl
    sl_step
    isplitl [H1 H2 H3 H4 H5 H6 H7 H8 H9 H10 H11]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    isplitl [H12]
    · rw [writes_whole arg12 harg12 f12 hz, e]
      iexact H12
    · iexists _; iexact H13

end Loops

end Cert.KernelIdeal.Body

end
-- ==== Proof.Run.lean ====
/- The run of the kernel program, in any arithmetic: the body's triple at each grid point, the pipeline's proof data (each input's buffer at its
   block, the output's at the body's function of those blocks), and the launch. The frames of both kernel programs come from this one run. -/
module

public import proofs.«01_k».proof.Proof.BodyRun
public import proofs.«01_k».proof.Proof.Gen.KernelIdeal.Frame
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- What the body stores at point `t`. -/
def blockOut (c : Dev nD) (t : Fin cfg0.N) : FVec F S1024x64 .f32 :=
  bodyOut (iblk m c 0 t) (iblk m c 1 t) (iblk m c 2 t) (iblk m c 3 t) ⟨iblk m c 4 t, iblk m c 5 t, iblk m c 6 t, iblk m c 7 t, iblk m c 8 t⟩ (iblk m c 9 t) (iblk m c 10 t)

/-- The proof data: every input's buffer at its block, the output's at what the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => blockOut m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = blockOut m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- The body's precondition at point `t`, the windows one by one, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7, after0_8, after0_9, after0_10, after0_11]
  rw [show (dats m 0 c).Φ t.castSucc = Pipeline.ΦA spec0 c from rfl]
  unfold Pipeline.ΦA
  rw [scopedRest0_eq]
  unfold owns blockOut
  iintro ⟨⟨HS, Hr⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, -, H11⟩⟩
  icases HS with ⟨%fs, HS⟩
  iapply (wp_wand_r Idealize.ShloMosaic.frame (wpE (defs₀ (F := F)) Variants.none (c : Thread nD τ) none) Set.univ)
  isplitl [H0 H1 H2 H3 H4 H5 H6 H7 H8 H9 H10 H11 HS]
  · iapply (body c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _)
      f4 f5 f6 f7 f8 f0 f1 f2 f3 f9 f10 none Set.univ f11 fs)
    isplitl [H0 H1 H2 H3 H4 H5 H6 H7 H8 H9 H10]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    isplitl [H11]; · iexact H11
    simp only [Memref.whole, View.set_whole]
    iexact HS
  · iintro %y ⟨⟨H0, H1, H2, H3, H4, H5, H6, H7, H8, H9, H10⟩, H11, ⟨%fz, HS⟩⟩
    isplitl [HS Hr]
    · isplitl [HS]
      · iexists fz
        simp only [Memref.whole, View.set_whole]
        iexact HS
      iexact Hr
    isplitl [Ho]; · iexact Ho
    isplitl [H0]
    · iexists _; isplitr; · ipureintro; exact h0
      iexact H0
    isplitl [H1]
    · iexists _; isplitr; · ipureintro; exact h1
      iexact H1
    isplitl [H2]
    · iexists _; isplitr; · ipureintro; exact h2
      iexact H2
    isplitl [H3]
    · iexists _; isplitr; · ipureintro; exact h3
      iexact H3
    isplitl [H4]
    · iexists _; isplitr; · ipureintro; exact h4
      iexact H4
    isplitl [H5]
    · iexists _; isplitr; · ipureintro; exact h5
      iexact H5
    isplitl [H6]
    · iexists _; isplitr; · ipureintro; exact h6
      iexact H6
    isplitl [H7]
    · iexists _; isplitr; · ipureintro; exact h7
      iexact H7
    isplitl [H8]
    · iexists _; isplitr; · ipureintro; exact h8
      iexact H8
    isplitl [H9]
    · iexists _; isplitr; · ipureintro; exact h9
      iexact H9
    isplitl [H10]
    · iexists _; isplitr; · ipureintro; exact h10
      iexact H10
    iexists _; isplitr
    swap; · iexact H11
    ipureintro
    refine ((hstage0_11 ((cfg0.slots t 11).cast nbuf0_11)).read_unread _).trans ?_
    show bodyOut _ _ _ _ ⟨_, _, _, _, _⟩ _ _ = _
    rw [h0, h1, h2, h3, h4, h5, h6, h7, h8, h9, h10]

/-- The body table's row at point `t` is the body there. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array of the pipeline ends at what the proof data give, every other argument as it was, every counter at zero. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.KernelIdeal.Body

end
-- ==== Proof.Operands.lean ====
/- The arrays the kernel is launched on, read at an entry: the features (coordinates, then the sixteen others, then a one),
   the coordinates transposed, and the first layer's weights laid out as two blocks of a wider matrix. -/
module

public import proofs.«01_k».proof.Proof.Run
public import Idealize.ShloMosaic.Lib.Pipeline.ValueKit
public import Idealize.ShloMosaic.Lib.Routing.OpsOne

@[expose] public section

set_option maxRecDepth 16384

noncomputable section

namespace Cert.KernelIdeal.Body

open Cert.KernelIdeal Cert.KernelIdeal.Gen
open Idealize.ShloMosaic Idealize.ShloMosaic.TcCoe
open Idealize.SL.Sem
open Idealize.ShloMosaic.Routing (shape1 shape2 start_pair resultIdx?_ix2 scatter_set_hit scatter_set_miss)

/-! ## A block written into a matrix -/

theorem window_block {R C A B : Nat} (d : ScatterDims (shape2 R C) (shape1 2) (shape2 A B))
    (huw : d.updateWindowDims = [0, 1]) (hiw : d.insertedWindowDims = []) (i : Fin A) (j : Fin B) :
    d.window (ValueIdx.ix2 i j) 0 = i.val ∧ d.window (ValueIdx.ix2 i j) 1 = j.val := by
  obtain ⟨uw, iw, sd, iv, wf⟩ := d
  dsimp only at huw hiw
  subst huw hiw
  exact ⟨rfl, rfl⟩

/-- A matrix with a block `u` written at row `a` and column `b`, read at an entry. -/
theorem scatter_block {α : Type} {R C A B : Nat} (d : ScatterDims (shape2 R C) (shape1 2) (shape2 A B))
    (huw : d.updateWindowDims = [0, 1]) (hiw : d.insertedWindowDims = []) (hsd : d.scatterDimsToOperandDims = [0, 1])
    (hivd : d.indexVectorDim = 0) (x : (shape2 R C).Idx → α) (idx : IVec (shape1 2) 32) (u : (shape2 A B).Idx → α) (a b : ℕ)
    (ha : (idx (ix1 (0 : Fin 2))).toInt = (a : ℤ)) (hb : (idx (ix1 (1 : Fin 2))).toInt = (b : ℤ)) (r : Fin R) (c : Fin C) :
    Host.scatter d (fun _ v => v) x idx u (ix2 r c)
      = if h : (a ≤ r.val ∧ r.val < a + A) ∧ (b ≤ c.val ∧ c.val < b + B) then
          u (ix2 ⟨r.val - a, by omega⟩ ⟨c.val - b, by omega⟩) else x (ix2 r c) := by
  simp only [ix2_eq_valueIdx]
  simp only [ix1_eq_valueIdx] at ha hb
  have lands : ∀ (i : Fin A) (j : Fin B), d.resultIdx? (ValueIdx.ix2 i j) idx = some (ValueIdx.ix2 r c) ↔ a + i.val = r.val ∧ b + j.val = c.val := by
    intro i j
    rw [resultIdx?_ix2, start_pair d hsd hivd, start_pair d hsd hivd, ha, hb, (window_block d huw hiw i j).1, (window_block d huw hiw i j).2]
    omega
  split
  · next h =>
    refine scatter_set_hit d x idx u _ _ (fun k hk => ?_) (ValueIdx.ix2 ⟨r.val - a, by omega⟩ ⟨c.val - b, by omega⟩) ((lands _ _).2 ⟨by dsimp only; omega, by dsimp only; omega⟩)
    rw [ValueIdx.eq_ix2 k] at hk ⊢
    have := (lands (k 0) (k 1)).1 hk
    congr 2 <;> apply Fin.ext <;> dsimp only <;> omega
  · next h =>
    refine scatter_set_miss d x idx u _ fun k hk => h ?_
    rw [ValueIdx.eq_ix2 k] at hk
    have := (lands (k 0) (k 1)).1 hk
    have h0 : (k 0).val < A := (k 0).isLt
    have h1 : (k 1).val < B := (k 1).isLt
    omega

/-! ## The arrays -/

variable (m : (ℓ : Loc nD τ sig) → Buf (Elt Ideal) ℓ) (c : Dev nD)

/-- The arguments, by name. -/
abbrev aG : FVec Ideal S16384x3 .f32 := m (c, Proc.tc.devRef main_arg0)
abbrev aX : FVec Ideal S16384x16 .f32 := m (c, Proc.tc.devRef main_arg1)
abbrev aW1 : FVec Ideal S6x64 .f32 := m (c, Proc.tc.devRef main_arg3)
abbrev aB1 : FVec Ideal S64 .f32 := m (c, Proc.tc.devRef main_arg4)
abbrev aW2 : FVec Ideal S64x64 .f32 := m (c, Proc.tc.devRef main_arg5)
abbrev aB2 : FVec Ideal S64 .f32 := m (c, Proc.tc.devRef main_arg6)
abbrev aA1 : FVec Ideal S32x64 .f32 := m (c, Proc.tc.devRef main_arg7)
abbrev aAb1 : FVec Ideal S64 .f32 := m (c, Proc.tc.devRef main_arg8)
abbrev aA2 : FVec Ideal S64x128 .f32 := m (c, Proc.tc.devRef main_arg9)
abbrev aAb2 : FVec Ideal S128 .f32 := m (c, Proc.tc.devRef main_arg10)
abbrev aLg : FVec Ideal S64 .f32 := m (c, Proc.tc.devRef main_arg11)
abbrev aLb : FVec Ideal S64 .f32 := m (c, Proc.tc.devRef main_arg12)

theorem gT_at (k : Fin 3) (x : Fin 16384) : (V m c main_v2 : FVec Ideal S3x16384 .f32) (ix2 k x) = aG m c (ix2 x k) := by
  entry_read
  pointwise

theorem bpre_at (k : Fin 128) : (V m c main_v28 : FVec Ideal S1x128 .f32) (ix2 0 k)
    = if h : k.val < 64 then aB1 m c (ix1 ⟨k.val, h⟩) else aAb1 m c (ix1 ⟨k.val - 64, by omega⟩) := by
  entry_read
  pointwise

theorem feats_eq : V m c main_v1 = concatenate S16384x20 1 [⟨S16384x3, aG m c⟩, ⟨S16384x16, aX m c⟩,
    ⟨S16384x1, broadcastInDim S16384x1 ![] bcast_S_S16384x1 (constant S_ .f32 0x3F800000#32)⟩] concatenates_S16384x3_S16384x16_S16384x1_S16384x20_d1 := by
  rfl

theorem b2_at (x : Fin 64) : (V m c main_v29 : FVec Ideal S1x64 .f32) (ix2 0 x) = aB2 m c (ix1 x) := by
  entry_read
  pointwise
theorem ab2_at (x : Fin 128) : (V m c main_v30 : FVec Ideal S1x128 .f32) (ix2 0 x) = aAb2 m c (ix1 x) := by
  entry_read
  pointwise
theorem lg_at (x : Fin 64) : (V m c main_v31 : FVec Ideal S1x64 .f32) (ix2 0 x) = aLg m c (ix1 x) := by
  entry_read
  pointwise
theorem lb_at (x : Fin 64) : (V m c main_v32 : FVec Ideal S1x64 .f32) (ix2 0 x) = aLb m c (ix1 x) := by
  entry_read
  pointwise

theorem feats_at (x : Fin 16384) (k : Fin 20) : (V m c main_v1 : FVec Ideal S16384x20 .f32) (ix2 x k)
    = if h : k.val < 3 then aG m c (ix2 x ⟨k.val, h⟩) else if h : k.val - 3 < 16 then aX m c (ix2 x ⟨k.val - 3, by omega⟩) else 1 := by
  rw [feats_eq]
  pointwise

theorem word_pair (a b : BitVec 32) (q : Fin 2) :
    concatenate S2 0 [⟨S1, broadcastInDim S1 ![] bcast_S_S1 (constantI S_ 32 a)⟩, ⟨S1, broadcastInDim S1 ![] bcast_S_S1 (constantI S_ 32 b)⟩]
      concatenates_S1_S1_S2_d0 (ix1 q) = if q.val < 1 then a else b := by
  pointwise
  split <;> rfl

theorem wpre_at (x : Fin 20) (k : Fin 128) : (V m c main_v15 : FVec Ideal S20x128 .f32) (ix2 x k)
    = if h : (3 ≤ x.val ∧ x.val < 3 + 16) ∧ (64 ≤ k.val ∧ k.val < 64 + 64) then aA1 m c (ix2 ⟨x.val - 3, by omega⟩ ⟨k.val - 64, by omega⟩)
      else if h : (0 ≤ x.val ∧ x.val < 0 + 3) ∧ (0 ≤ k.val ∧ k.val < 0 + 64) then
        aW1 m c (ix2 ⟨x.val, by omega⟩ ⟨k.val, by omega⟩) - aW1 m c (ix2 ⟨3 + x.val, by omega⟩ ⟨k.val, by omega⟩)
      else 0 := by
  entry_read
  refine (scatter_block scatter_S20x128_S2_S16x64_01_n_01_0 rfl rfl rfl rfl _ _ _ 3 64 (by rw [word_pair]; rfl) (by rw [word_pair]; rfl) x k).trans ?_
  split
  · pointwise
  · refine (scatter_block scatter_S20x128_S2_S3x64_01_n_01_0 rfl rfl rfl rfl _ _ _ 0 0 (by rw [word_pair]; rfl) (by rw [word_pair]; rfl) x k).trans ?_
    split
    · pointwise
    · pointwise

theorem wcat_at (x : Fin 20) (k : Fin 128) : (V m c main_v26 : FVec Ideal S20x128 .f32) (ix2 x k)
    = if h : (3 ≤ x.val ∧ x.val < 3 + 16) ∧ (64 ≤ k.val ∧ k.val < 64 + 64) then aA1 m c (ix2 ⟨16 + (x.val - 3), by omega⟩ ⟨k.val - 64, by omega⟩)
      else if h : (0 ≤ x.val ∧ x.val < 0 + 3) ∧ (0 ≤ k.val ∧ k.val < 0 + 64) then
        aW1 m c (ix2 ⟨3 + x.val, by omega⟩ ⟨k.val, by omega⟩)
      else 0 := by
  entry_read
  refine (scatter_block scatter_S20x128_S2_S16x64_01_n_01_0 rfl rfl rfl rfl _ _ _ 3 64 (by rw [word_pair]; rfl) (by rw [word_pair]; rfl) x k).trans ?_
  split
  · pointwise
  · refine (scatter_block scatter_S20x128_S2_S3x64_01_n_01_0 rfl rfl rfl rfl _ _ _ 0 0 (by rw [word_pair]; rfl) (by rw [word_pair]; rfl) x k).trans ?_
    split
    · pointwise
    · pointwise

/-! ## The blocks the body reads -/

theorem idx : ∀ t : Fin cfg0.N, win0_0.index t = ![t.val, 0] ∧ win0_1.index t = ![0, t.val] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] ∧ t.val < 16 :=
  (by decide +kernel : ∀ t : Fin grid0.N, _)

/-- A row of point `t`'s block, as a row of the whole array. -/
def glob (t : Fin cfg0.N) (r : Fin 1024) : Fin 16384 := ⟨t.val * 1024 + r.val, by have := (idx t).2.2.2.2.2.2.2.2.2.2.2.2; omega⟩

theorem blk0 (t : Fin cfg0.N) (r : Fin 1024) (k : Fin 20) :
    (iblk m c 0 t : FVec Ideal S1024x20 .f32) (ix2 r k) = (V m c main_v1 : FVec Ideal S16384x20 .f32) (ix2 (glob t r) k) := by
  blk_simp [iblk, idx t]
  blk_ext [glob, idx t]
theorem blk1 (t : Fin cfg0.N) (k : Fin 3) (r : Fin 1024) :
    (iblk m c 1 t : FVec Ideal S3x1024 .f32) (ix2 k r) = (V m c main_v2 : FVec Ideal S3x16384 .f32) (ix2 k (glob t r)) := by
  blk_simp [iblk, idx t]
  blk_ext [glob, idx t]
theorem blk2 (t : Fin cfg0.N) : (iblk m c 2 t : FVec Ideal S20x128 .f32) = V m c main_v15 := by
  funext j
  blk_simp [iblk, idx t]
  blk_ext [idx t]
theorem blk3 (t : Fin cfg0.N) : (iblk m c 3 t : FVec Ideal S1x128 .f32) = V m c main_v28 := by
  funext j
  blk_simp [iblk, idx t]
  blk_ext [idx t]
theorem blk4 (t : Fin cfg0.N) : (iblk m c 4 t : FVec Ideal S20x128 .f32) = V m c main_v26 := by
  funext j
  blk_simp [iblk, idx t]
  blk_ext [idx t]
theorem blk5 (t : Fin cfg0.N) : (iblk m c 5 t : FVec Ideal S64x64 .f32) = aW2 m c := by
  funext j
  blk_simp [iblk, V, idx t]
  blk_ext [idx t]
theorem blk6 (t : Fin cfg0.N) : (iblk m c 6 t : FVec Ideal S1x64 .f32) = V m c main_v29 := by
  funext j
  blk_simp [iblk, idx t]
  blk_ext [idx t]
theorem blk7 (t : Fin cfg0.N) : (iblk m c 7 t : FVec Ideal S64x128 .f32) = aA2 m c := by
  funext j
  blk_simp [iblk, V, idx t]
  blk_ext [idx t]
theorem blk8 (t : Fin cfg0.N) : (iblk m c 8 t : FVec Ideal S1x128 .f32) = V m c main_v30 := by
  funext j
  blk_simp [iblk, idx t]
  blk_ext [idx t]
theorem blk9 (t : Fin cfg0.N) : (iblk m c 9 t : FVec Ideal S1x64 .f32) = V m c main_v31 := by
  funext j
  blk_simp [iblk, idx t]
  blk_ext [idx t]
theorem blk10 (t : Fin cfg0.N) : (iblk m c 10 t : FVec Ideal S1x64 .f32) = V m c main_v32 := by
  funext j
  blk_simp [iblk, idx t]
  blk_ext [idx t]

end Cert.KernelIdeal.Body

end
-- ==== Proof.Message.lean ====
/- The message of one neighbour, read at one entry: in the three spellings the body gives it, it is one function of the
   point's own first-layer row and the neighbour's features, joined into the running maximum. -/
module

public import proofs.«01_k».proof.Proof.Body
public import Idealize.ShloMosaic.Lib.Pointwise

@[expose] public section

set_option maxRecDepth 16384

noncomputable section

namespace Cert.KernelIdeal.Body

open Cert.KernelIdeal Cert.KernelIdeal.Gen
open Idealize.ShloMosaic Idealize.ShloMosaic.TcCoe
open Idealize.SL.Sem

/-- A point of a 64-wide half of a 128-wide row: the first half, the second half. -/
abbrev lo (x : Fin 64) : Fin 128 := ⟨x.val, by omega⟩
abbrev hi (x : Fin 64) : Fin 128 := ⟨64 + x.val, by omega⟩

/-- The first layer: the point's own row `u`, the neighbour's features `n` through the weights, and no less than zero. -/
def hid (W : Wts Ideal) (u : Fin 128 → EReal) (n : Fin 20 → EReal) (q : Fin 128) : EReal :=
  max (u q + ∑ c, n c * W.wcat (ix2 c q)) 0

/-- The message of a neighbour: its edge features, gated and shifted. -/
def msg (W : Wts Ideal) (u : Fin 128 → EReal) (n : Fin 20 → EReal) (o : Fin 64) : EReal :=
  Ideal.logistic (∑ x, hid W u n (hi x) * W.a2 (ix2 x (lo o)) + W.ab2 (ix2 0 (lo o)) + 1)
      * max (∑ x, hid W u n (lo x) * W.w2 (ix2 x o) + W.b2 (ix2 0 o)) 0
    + (∑ x, hid W u n (hi x) * W.a2 (ix2 x (hi o)) + W.ab2 (ix2 0 (hi o)))

variable (W : Wts Ideal) (v1 : FVec Ideal S1024x20 .f32) (v8 : FVec Ideal S1024x128 .f32) (acc : FVec Ideal S1024x64 .f32)

theorem joinA_at (n : FVec Ideal S1024x20 .f32) (r : Fin 1024) (o : Fin 64) :
    joinA W v8 acc n (ix2 r o) = max (acc (ix2 r o)) (msg W (fun q => v8 (ix2 r q)) (fun c => n (ix2 r c)) o) := by
  pointwise [joinA, k0_pay15, k0_pay12, k0_pay13, k0_pay14, k0_pay11, msg, hid]

theorem joinB_at (n : FVec Ideal S1024x20 .f32) (r : Fin 1024) (o : Fin 64) :
    joinB W v8 acc n (ix2 r o) = max (acc (ix2 r o)) (msg W (fun q => v8 (ix2 r q)) (fun c => n (ix2 r c)) o) := by
  pointwise [joinB, k0_pay39, k0_pay17, k0_pay18, k0_pay19, k0_pay16, k0_pay11, msg, hid]

theorem fastMax_at (p : Fast Ideal) (r : Fin 1024) (o : Fin 64) :
    fastMax W v8 p (ix2 r o)
      = max (max (p.1 (ix2 r o)) (msg W (fun q => v8 (ix2 r q)) (fun c => p.2.2.1 (ix2 r c)) o))
          (msg W (fun q => v8 (ix2 r q)) (fun c => p.2.2.2.1 (ix2 r c)) o) := by
  pointwise [fastMax, k0_pay45, k0_pay41, k0_pay40, k0_pay43, k0_pay44, k0_pay42, k0_pay11, msg, hid]

theorem slowStep_at (ln : IVec S1024x1024 32) (s : Vec Ideal S1024x1024 .f32) (r : Fin 1024) (o : Fin 64) :
    slowStep W v1 v8 ln acc s (ix2 r o)
      = max (acc (ix2 r o)) (msg W (fun q => v8 (ix2 r q))
          (fun c => ∑ x : Fin 1024, FloatOps.sitofp (F := Ideal) .f32 (BitVec.setWidth 32 (k0_pay20 (F := Ideal) ln s (ix2 r x))) * v1 (ix2 x c)) o) := by
  pointwise [slowStep, k0_pay48, k0_pay23, k0_pay24, k0_pay22, k0_pay11, msg, hid]

end Cert.KernelIdeal.Body

end
-- ==== Proof.Pick.lean ====
/-
  Taking the nearest points of a row one at a time, as mathematics of one row of numbers.

  A row `d` gives the distances of one point to all the points of its frame. Twice over, the smallest entry is found
  and struck out by writing a large mark `M` over it:
  * `marked` strikes out the first place at which the smallest entry stands, and no other;
  * `wiped` strikes out every place at which it stands.
  As long as each smallest entry stands in a single place, the two agree. The places `marked` strikes out are, in
  order, the first places of a stable sort of the row.
-/
module

public import Idealize.ShloMosaic.PureOps
public import Idealize.ShloMosaic.Lib.SortFacts
public import Idealize.ShloMosaic.Lib.SortPrefix
public import Idealize.ShloMosaic.PureOps.Ideal
public import Mathlib.Algebra.Order.BigOperators.Group.Finset
public import Mathlib.Data.EReal.Operations

@[expose] public section

noncomputable section

namespace Cert.Pick

open Idealize.ShloMosaic

variable {n : ℕ} [NeZero n]

/-- The smallest entry of a row. -/
def low (s : Fin n → EReal) : EReal := Finset.univ.fold min ⊤ s

/-- The places at which the smallest entry stands. -/
def hits (s : Fin n → EReal) : Finset (Fin n) := Finset.univ.filter fun j => s j = low s

theorem low_le (s : Fin n → EReal) (j : Fin n) : low s ≤ s j := Finset.inf_le (f := s) (Finset.mem_univ j)

theorem hits_nonempty (s : Fin n → EReal) : (hits s).Nonempty := by
  obtain ⟨j, -, hj⟩ := Finset.exists_mem_eq_inf Finset.univ (Finset.univ_nonempty (α := Fin n)) s
  exact ⟨j, Finset.mem_filter.mpr ⟨Finset.mem_univ j, hj.symm⟩⟩

theorem card_hits_pos (s : Fin n → EReal) : 1 ≤ (hits s).card := (hits_nonempty s).card_pos

/-- The first place at which the smallest entry stands. -/
def first (s : Fin n → EReal) : Fin n := (hits s).min' (hits_nonempty s)

theorem at_first (s : Fin n → EReal) : s (first s) = low s :=
  (Finset.mem_filter.mp ((hits s).min'_mem (hits_nonempty s))).2

theorem first_le (s : Fin n → EReal) (j : Fin n) (h : s j = low s) : first s ≤ j :=
  (hits s).min'_le j (Finset.mem_filter.mpr ⟨Finset.mem_univ j, h⟩)

/-- A place that holds the smallest entry and comes no later than any other such place is the first. -/
theorem eq_first (s : Fin n → EReal) (j : Fin n) (h : s j = low s) (hmin : ∀ k, s k = low s → j ≤ k) : j = first s :=
  le_antisymm (hmin _ (at_first s)) (first_le s j h)

theorem hit_iff_of_card (s : Fin n → EReal) (h : (hits s).card = 1) (j : Fin n) : s j = low s ↔ j = first s := by
  obtain ⟨a, ha⟩ := Finset.card_eq_one.mp h
  have mem : ∀ k, s k = low s ↔ k = a := fun k => by
    rw [← Finset.mem_singleton (a := a), ← ha]; simp [hits]
  rw [mem, (mem (first s)).mp (at_first s)]

/-- Strike out the first smallest entry. -/
def mark (M : EReal) (s : Fin n → EReal) : Fin n → EReal := fun j => if j = first s then M else s j

/-- Strike out every smallest entry. -/
def wipe (M : EReal) (s : Fin n → EReal) : Fin n → EReal := fun j => if s j = low s then M else s j

def marked (M : EReal) (d : Fin n → EReal) : ℕ → Fin n → EReal
  | 0 => d
  | k + 1 => mark M (marked M d k)

def wiped (M : EReal) (d : Fin n → EReal) : ℕ → Fin n → EReal
  | 0 => d
  | k + 1 => wipe M (wiped M d k)

/-- The place struck out in round `k`. -/
def pick (M : EReal) (d : Fin n → EReal) (k : ℕ) : Fin n := first (marked M d k)

theorem wipe_eq_mark (M : EReal) (s : Fin n → EReal) (h : (hits s).card = 1) : wipe M s = mark M s :=
  funext fun j => by unfold wipe mark; simp only [hit_iff_of_card s h j]

theorem wiped_eq_marked (M : EReal) (d : Fin n → EReal) (k : ℕ) (h : ∀ i < k, (hits (wiped M d i)).card = 1) :
    wiped M d k = marked M d k := by
  induction k with
  | zero => rfl
  | succ k ih =>
    have hk := ih fun i hi => h i (by omega)
    change wipe M (wiped M d k) = mark M (marked M d k)
    rw [wipe_eq_mark M _ (h k (by omega)), hk]

/-- What stands in a row after `k` rounds: the mark at the places taken, the row's own entry elsewhere. -/
theorem marked_eq (M : EReal) (d : Fin n → EReal) (k : ℕ) (j : Fin n) :
    marked M d k j = if ∃ i < k, pick M d i = j then M else d j := by
  induction k with
  | zero => simp [marked]
  | succ k ih =>
    change (if j = pick M d k then M else marked M d k j) = _
    rw [ih]
    by_cases hj : j = pick M d k
    · rw [if_pos hj, if_pos ⟨k, by omega, hj.symm⟩]
    · rw [if_neg hj]
      refine if_congr ⟨fun ⟨i, hi, e⟩ => ⟨i, by omega, e⟩, fun ⟨i, hi, e⟩ => ⟨i, ?_, e⟩⟩ rfl rfl
      rcases Nat.lt_succ_iff_lt_or_eq.mp hi with h | h
      · exact h
      · exact absurd (h ▸ e.symm) hj

section
variable (M : EReal) (d : Fin n → EReal) (hd : ∀ j, d j < M)
include hd

/-- After fewer rounds than places, some place is still free. -/
theorem exists_free (k : ℕ) (hk : k < n) : ∃ j, ¬ ∃ i < k, pick M d i = j := by
  by_contra hall
  have hsub : (Finset.univ : Finset (Fin n)) ⊆ (Finset.range k).image (pick M d) := fun j _ => by
    have hj := not_not.mp (not_exists.mp hall j)
    obtain ⟨i, hi, e⟩ := hj
    exact Finset.mem_image.mpr ⟨i, Finset.mem_range.mpr hi, e⟩
  have := (Finset.card_le_card hsub).trans Finset.card_image_le
  simp at this
  omega

theorem pick_free (k : ℕ) (hk : k < n) : ¬ ∃ i < k, pick M d i = pick M d k := by
  obtain ⟨j, hj⟩ := exists_free M d hd k hk
  intro hp
  have h1 : marked M d k (pick M d k) = M := by rw [marked_eq, if_pos hp]
  have h2 : marked M d k j = d j := by rw [marked_eq, if_neg hj]
  have h3 := low_le (marked M d k) j
  rw [h2, ← at_first] at h3
  change marked M d k (pick M d k) ≤ d j at h3
  rw [h1] at h3
  exact absurd (h3.trans_lt (hd j)) (lt_irrefl M)

/-- The place taken in round `k` holds the least entry of those still free, and is the first of them to hold it. -/
theorem pick_least (k : ℕ) (hk : k < n) (j : Fin n) (hj : ¬ ∃ i < k, pick M d i = j) :
    d (pick M d k) ≤ d j ∧ (d (pick M d k) = d j → pick M d k ≤ j) := by
  have h1 : d (pick M d k) = low (marked M d k) := by
    rw [← at_first]
    change _ = marked M d k (pick M d k)
    rw [marked_eq, if_neg (pick_free M d hd k hk)]
  have h2 : marked M d k j = d j := by rw [marked_eq, if_neg hj]
  refine ⟨h1.trans_le ((low_le _ j).trans_eq h2), fun e => first_le _ j ?_⟩
  rw [h2, ← e, h1]

end

/-! ## A stable sort of the row -/

/-- A stable sort of ascending positions may as well compare the positions where the keys tie. -/
theorem stableSort_congr {ι : Type} [LT ι] (before before' : ι → ι → Bool)
    (h : ∀ a b : ι, a < b → before b a = before' b a) (l : List ι) (hl : l.Pairwise (· < ·)) :
    stableSort before l = stableSort before' l := by
  have ins : ∀ (a : ι) (l : List ι), (∀ b ∈ l, a < b) → insertBefore before a l = insertBefore before' a l := by
    intro a l
    induction l with
    | nil => intro _; rfl
    | cons b l ih =>
      intro hb
      unfold insertBefore
      rw [h a b (hb b (by simp)), ih fun c hc => hb c (by simp [hc])]
  induction l with
  | nil => rfl
  | cons a l ih =>
    rw [List.pairwise_cons] at hl
    unfold stableSort
    rw [ih hl.2]
    exact ins a _ fun b hb => hl.1 b ((perm_stableSort before' l).mem_iff.mp hb)

/-- The `k`-th position of the stable ascending sort of a row is the place taken in round `k`. -/
theorem sortedFrom_eq_pick (M : EReal) (d : Fin n → EReal) (hd : ∀ j, d j < M) (before : Fin n → Fin n → Bool)
    (hb : ∀ a b, before a b = decide (d a < d b)) (k : ℕ) (hk : k < n) :
    sortedFrom before ⟨k, hk⟩ = pick M d k := by
  let B : Fin n → Fin n → Bool := fun a b => decide (d a < d b) || (decide (d a = d b) && decide (a < b))
  have hB : StrictTotalBefore B :=
    StrictTotalBefore.of_key_then_position (fun a b : EReal => decide (a < b)) d (fun a => by simp)
      (fun a b c hab hbc => by simp only [decide_eq_true_eq] at *; exact hab.trans hbc)
      (fun a b => by simp only [decide_eq_true_eq]; exact lt_trichotomy a b)
  have hs : sortPositions n before = sortPositions n B := by
    unfold sortPositions
    refine stableSort_congr _ _ (fun a b hab => ?_) _ (List.pairwise_lt_finRange n)
    simp [B, hb, hab.le]
  have hsf : sortedFrom before = sortedFrom B := by
    funext i; unfold sortedFrom; simp only [List.get_eq_getElem, Fin.val_cast]; simp only [hs]
  rw [hsf]
  have hfalse : ∀ a b : Fin n, d b ≤ d a → (d b = d a → b ≤ a) → B a b = false := by
    intro a b h1 h2
    simp only [B, Bool.or_eq_false_iff, Bool.and_eq_false_iff, decide_eq_false_iff_not, not_lt]
    refine ⟨h1, ?_⟩
    by_cases e : d a = d b
    · exact Or.inr (h2 e.symm)
    · exact Or.inl e
  have := hB.sortedFrom_eq_of_prefix (k := k + 1) hk (fun i => pick M d i)
    (fun i j e => by
      by_contra hne
      rcases lt_or_gt_of_ne hne with h | h
      · exact pick_free M d hd j (by omega) ⟨i, h, e⟩
      · exact pick_free M d hd i (by omega) ⟨j, h, e.symm⟩)
    (fun i j hij => by
      have hfree : ¬ ∃ l < (i : ℕ), pick M d l = pick M d j := fun ⟨l, hl, e⟩ =>
        pick_free M d hd j (by omega) ⟨l, by omega, e⟩
      have := pick_least M d hd i (by omega) _ hfree
      exact hfalse _ _ this.1 this.2)
    (fun i p hp => by
      have := pick_least M d hd i (by omega) p fun ⟨l, hl, e⟩ => hp ⟨l, by omega⟩ e
      exact hfalse _ _ this.1 this.2)
    ⟨k, by omega⟩
  exact this

/-! ## Counting -/

/-- If `a` numbers, each at least `1`, add up to `a` in each of `b` rows taken together, each of them is `1`. -/
theorem all_one (a b : ℕ) (f : Fin b → ℕ → ℕ) (h1 : ∀ r i, 1 ≤ f r i)
    (hsum : ∑ r, ∑ i ∈ Finset.range a, f r i = b * a) (r : Fin b) (i : ℕ) (hi : i < a) : f r i = 1 := by
  have hle : ∀ r ∈ Finset.univ, ∑ i ∈ Finset.range a, 1 ≤ ∑ i ∈ Finset.range a, f r i :=
    fun r _ => Finset.sum_le_sum fun i _ => h1 r i
  have heq : ∑ _r : Fin b, ∑ i ∈ Finset.range a, 1 = ∑ r, ∑ i ∈ Finset.range a, f r i := by
    rw [hsum]; simp
  have hr := (Finset.sum_eq_sum_iff_of_le hle).mp heq r (Finset.mem_univ r)
  exact ((Finset.sum_eq_sum_iff_of_le fun i _ => h1 r i).mp hr i (Finset.mem_range.mpr hi)).symm

end Cert.Pick
-- ==== Proof.Search.lean ====
/- The two searches, read one row of the distance block at a time: the fast one strikes out every place at which the
   smallest entry stands, twice a trip; the other strikes out the first such place only, once a trip. -/
module

public import proofs.«01_k».proof.Proof.Message
public import proofs.«01_k».proof.Proof.Pick

@[expose] public section

set_option maxRecDepth 16384

noncomputable section

namespace Cert.KernelIdeal.Body

open Cert.KernelIdeal Cert.KernelIdeal.Gen Cert.Pick
open Idealize.ShloMosaic Idealize.ShloMosaic.TcCoe
open Idealize.SL.Sem

/-- What the body writes over a distance it has taken. -/
abbrev M : EReal := Ideal.ofBits .f32 2137108966#32

/-- Row `r` of a block. -/
abbrev row (s : FVec Ideal S1024x1024 .f32) (r : Fin 1024) : Fin 1024 → EReal := fun j => s (ix2 r j)

/-- The features summed over the places at which a row has its smallest entry. -/
def hitSum (s : Fin 1024 → EReal) (v : Fin 1024 → EReal) : EReal := ∑ x, (if s x = low s then 1 else 0) * v x

variable (W : Wts Ideal) (v1 : FVec Ideal S1024x20 .f32) (v8 : FVec Ideal S1024x128 .f32) (cnt q : FVec Ideal S1024x1 .f32)
  (s : Vec Ideal S1024x1024 .f32)

/-- A comparison's bit as a number. -/
theorem bit_val (p : Prop) [Decidable p] :
    FloatOps.sitofp (F := Ideal) .f32 (BitVec.setWidth 32 (BitVec.ofBool (decide p))) = if p then (1 : EReal) else 0 := by
  change (((BitVec.setWidth 32 (BitVec.ofBool (decide p))).toInt : ℝ) : EReal) = _
  by_cases h : p <;> simp [h]

theorem top_bits : Ideal.ofBits .f32 2139095040#32 = (⊤ : EReal) := by simp [Ideal.ofBits, Ideal.ieee]

theorem pay3_row (r : Fin 1024) (h : q (ix2 r 0) = low (row s r)) (j : Fin 1024) :
    k0_pay3 (F := Ideal) q s (ix2 r j) = wipe M (row s r) j := by
  pointwise [k0_pay3, k0_pay2, wipe, h]

theorem pay5_row (r : Fin 1024) (h : q (ix2 r 0) = low (row s r)) (j : Fin 1024) :
    k0_pay5 (F := Ideal) q s (ix2 r j) = wipe M (wipe M (row s r)) j := by
  have h3 := pay3_row q s r h
  pointwise [k0_pay5, k0_pay4, h3, top_bits]
  rfl

theorem pay6_row (r : Fin 1024) (h : q (ix2 r 0) = low (row s r)) (j : Fin 1024) :
    k0_pay6 (F := Ideal) q s (ix2 r j) = wipe M (wipe M (row s r)) j := by
  rw [← pay5_row q s r h]
  pointwise [k0_pay6]

theorem pay7_row (r : Fin 1024) (h : q (ix2 r 0) = low (row s r)) :
    k0_pay7 (F := Ideal) q s (ix2 r 0) = low (wipe M (wipe M (row s r))) := by
  have h5 := pay5_row q s r h
  pointwise [k0_pay7, h5, top_bits]
  rfl

theorem pay8_row (r : Fin 1024) (h : q (ix2 r 0) = low (row s r)) (c : Fin 20) :
    k0_pay8 (F := Ideal) v1 q s (ix2 r c) = hitSum (row s r) (fun x => v1 (ix2 x c)) := by
  pointwise [k0_pay8, k0_pay2, h, hitSum, bit_val]

theorem pay9_row (r : Fin 1024) (h : q (ix2 r 0) = low (row s r)) (c : Fin 20) :
    k0_pay9 (F := Ideal) v1 q s (ix2 r c) = hitSum (wipe M (row s r)) (fun x => v1 (ix2 x c)) := by
  have h3 := pay3_row q s r h
  pointwise [k0_pay9, k0_pay4, h3, hitSum, bit_val, top_bits]
  rfl

theorem pay10_row (r : Fin 1024) :
    k0_pay10 (F := Ideal) v1 cnt q s (ix2 r 0) = cnt (ix2 r 0) + (k0_pay8 (F := Ideal) v1 q s (ix2 r 19) + k0_pay9 (F := Ideal) v1 q s (ix2 r 19)) := by
  pointwise [k0_pay10]

theorem pay28_eq : k0_pay28 (F := Ideal) s = s := by
  funext j
  rw [eq_ix2 j]
  pointwise [k0_pay28]

/-! ### The first two minima, taken before the loop -/

theorem pay31_row (r : Fin 1024) (j : Fin 1024) :
    k0_pay31 (F := Ideal) s s (ix2 r j) = wipe M (row s r) j := by
  pointwise [k0_pay31, k0_pay30, top_bits]
  rfl

theorem pay33_row (r : Fin 1024) (j : Fin 1024) :
    k0_pay33 (F := Ideal) s s (ix2 r j) = wipe M (wipe M (row s r)) j := by
  have h3 := pay31_row s r
  pointwise [k0_pay33, k0_pay32, h3, top_bits]
  rfl

theorem pay34_row (r : Fin 1024) (j : Fin 1024) :
    k0_pay34 (F := Ideal) s s (ix2 r j) = wipe M (wipe M (row s r)) j := by
  rw [← pay33_row s r]
  pointwise [k0_pay34]

theorem pay35_row (r : Fin 1024) :
    k0_pay35 (F := Ideal) s s (ix2 r 0) = low (wipe M (wipe M (row s r))) := by
  have h5 := pay33_row s r
  pointwise [k0_pay35, h5, top_bits]
  rfl

theorem pay36_row (r : Fin 1024) (c : Fin 20) :
    k0_pay36 (F := Ideal) v1 s s (ix2 r c) = hitSum (row s r) (fun x => v1 (ix2 x c)) := by
  pointwise [k0_pay36, k0_pay30, hitSum, bit_val, top_bits]
  rfl

theorem pay37_row (r : Fin 1024) (c : Fin 20) :
    k0_pay37 (F := Ideal) v1 s s (ix2 r c) = hitSum (wipe M (row s r)) (fun x => v1 (ix2 x c)) := by
  have h3 := pay31_row s r
  pointwise [k0_pay37, k0_pay32, h3, hitSum, bit_val, top_bits]
  rfl

theorem pay38_row (r : Fin 1024) :
    k0_pay38 (F := Ideal) v1 s s (ix2 r 0) = k0_pay36 (F := Ideal) v1 s s (ix2 r 19) + k0_pay37 (F := Ideal) v1 s s (ix2 r 19) := by
  pointwise [k0_pay38]

theorem pay29_at (r : Fin 1024) (o : Fin 64) : k0_pay29 (F := Ideal) (ix2 r o) = ⊥ := by
  pointwise [k0_pay29]
  simp [Ideal.ofBits, Ideal.ieee]

theorem toInt_ofNat (n : ℕ) (h : n ≤ 1024) : (BitVec.ofNat 32 n).toInt = (n : ℤ) := by
  rw [BitVec.toInt_eq_toNat_of_lt (by rw [BitVec.toNat_ofNat]; omega), BitVec.toNat_ofNat, Nat.mod_eq_of_lt (by omega)]

/-- The least lane among those at which a row has its smallest entry, as the body reduces it. -/
theorem fold_lanes (s : Fin 1024 → EReal) :
    Finset.univ.fold IntOp.minsi (2147483647#32) (fun x : Fin 1024 => if s x = low s then BitVec.ofNat 32 x.val else 1024#32)
      = BitVec.ofNat 32 (first s).val := by
  apply BitVec.eq_of_toInt_eq
  rw [← Finset.fold_hom (op := IntOp.minsi) (op' := (min : ℤ → ℤ → ℤ)) (m := BitVec.toInt) fun x y => by
    unfold IntOp.minsi
    rw [BitVec.slt_eq_decide, min_def]
    by_cases h : x.toInt < y.toInt
    · simp [h, h.le]
    · simp only [h, decide_false, Bool.false_eq_true, if_false]
      split
      · omega
      · rfl]
  have hval : ∀ x : Fin 1024, (if s x = low s then BitVec.ofNat 32 x.val else 1024#32).toInt = if s x = low s then (x.val : ℤ) else 1024 := by
    intro x
    split
    · exact toInt_ofNat _ (by omega)
    · rfl
  simp only [hval]
  rw [toInt_ofNat (first s).val (by omega)]
  apply le_antisymm
  · rw [Finset.fold_min_le]
    exact Or.inr ⟨first s, Finset.mem_univ _, by rw [if_pos (at_first s)]⟩
  · rw [Finset.le_fold_min]
    refine ⟨?_, fun x _ => ?_⟩
    · have := (first s).isLt
      change ((first s).val : ℤ) ≤ 2147483647
      omega
    · split
      · next h => exact_mod_cast Fin.le_def.mp (first_le s x h)
      · have := (first s).isLt
        omega

theorem lane_eq (a b : Fin 1024) : IntOp.cmpi CmpIPredicate.eq (BitVec.ofNat 32 a.val) (BitVec.ofNat 32 b.val) = BitVec.ofBool (decide (a = b)) := by
  unfold IntOp.cmpi
  congr 1
  rw [Bool.eq_iff_iff]
  simp only [beq_iff_eq, decide_eq_true_eq]
  refine ⟨fun h => Fin.ext ?_, fun h => h ▸ rfl⟩
  have := congrArg BitVec.toNat h
  simp only [BitVec.toNat_ofNat] at this
  omega

theorem pay20_row (r j : Fin 1024) :
    k0_pay20 (F := Ideal) lanes s (ix2 r j) = BitVec.ofBool (decide (j = first (row s r))) := by
  pointwise [k0_pay20, top_bits]
  exact (congrArg (IntOp.cmpi CmpIPredicate.eq (BitVec.ofNat 32 j.val)) (fold_lanes (row s r))).trans (lane_eq j (first (row s r)))

theorem pay21_row (r j : Fin 1024) : k0_pay21 (F := Ideal) lanes s (ix2 r j) = mark M (row s r) j := by
  have h := pay20_row s r
  pointwise [k0_pay21, h, mark]

theorem pay46_at : k0_pay46 (F := Ideal) cnt = ∑ r : Fin 1024, cnt (ix2 r 0) := by
  pointwise [k0_pay46]
  simp

theorem distAgain_eq (x1 : Vec Ideal S1024x20 .f32) (x2 : Vec Ideal S3x1024 .f32) : distAgain x1 x2 = dist x1 x2 := by
  funext j
  rw [eq_ix2 j]
  pointwise [distAgain, dist, k0_pay47, k0_pay27, k0_pay25, coordRow]

end Cert.KernelIdeal.Body

end
-- ==== Proof.Nearest.lean ====
/- Both searches take the twenty nearest points of each row: whichever branch the body runs, what it keeps is the greatest
   message of those twenty. The fast search counts the places it strikes out; the count is the number of rows times twenty
   only if every smallest entry stood in a single place, and then striking out every such place is striking out the first. -/
module

public import proofs.«01_k».proof.Proof.Search

@[expose] public section

set_option maxRecDepth 16384

noncomputable section

namespace Cert.KernelIdeal.Body

open Cert.KernelIdeal Cert.KernelIdeal.Gen Cert.Pick
open Idealize.ShloMosaic Idealize.ShloMosaic.TcCoe
open Idealize.SL.Sem

/-- The greatest of the first `k` values, `-∞` before the first. -/
def best (f : ℕ → EReal) : ℕ → EReal
  | 0 => ⊥
  | k + 1 => max (best f k) (f k)

theorem best_congr (f g : ℕ → EReal) (k : ℕ) (h : ∀ i < k, f i = g i) : best f k = best g k := by
  induction k with
  | zero => rfl
  | succ k ih =>
    change max (best f k) (f k) = max (best g k) (g k)
    rw [ih fun i hi => h i (by omega), h k (by omega)]

variable (W : Wts Ideal) (v1 : FVec Ideal S1024x20 .f32) (v8 : FVec Ideal S1024x128 .f32) (d : FVec Ideal S1024x1024 .f32)

/-- Column `c` of the features. -/
abbrev col (c : Fin 20) : Fin 1024 → EReal := fun x => v1 (ix2 x c)

/-- What the fast search takes for the features of the `i`-th neighbour of row `r`. -/
abbrev fastNb (r : Fin 1024) (i : ℕ) : Fin 20 → EReal := fun c => hitSum (wiped M (row d r) i) (col v1 c)

/-- The features of the `i`-th nearest point of row `r`. -/
abbrev nearNb (r : Fin 1024) (i : ℕ) : Fin 20 → EReal := fun c => v1 (ix2 (pick M (row d r) i) c)

/-- The point's own row of the first layer. -/
abbrev own (r : Fin 1024) : Fin 128 → EReal := fun q => v8 (ix2 r q)

/-- What the fast search holds of row `r` before trip `k`. -/
structure FastAt (r : Fin 1024) (k : ℕ) (p : Fast Ideal) (s : FVec Ideal S1024x1024 .f32) : Prop where
  block : row s r = wiped M (row d r) (2 * k + 2)
  rmin : p.2.2.2.2 (ix2 r 0) = low (wiped M (row d r) (2 * k + 2))
  nA : ∀ c, p.2.2.1 (ix2 r c) = fastNb v1 d r (2 * k) c
  nB : ∀ c, p.2.2.2.1 (ix2 r c) = fastNb v1 d r (2 * k + 1) c
  cnt : p.2.1 (ix2 r 0) = ∑ i ∈ Finset.range (2 * k + 2), fastNb v1 d r i 19
  acc : ∀ o, p.1 (ix2 r o) = best (fun i => msg W (own v8 r) (fastNb v1 d r i) o) (2 * k)

theorem wiped_two (M : EReal) (s : Fin 1024 → EReal) (k : ℕ) : wiped M s (k + 2) = wipe M (wipe M (wiped M s k)) := rfl

theorem fast_zero (r : Fin 1024) : FastAt W v1 v8 d r 0 (fastInit v1 d) (k0_pay34 d (k0_pay28 d)) := by
  rw [pay28_eq]
  unfold fastInit
  rw [pay28_eq]
  exact {
    block := by
      rw [wiped_two]
      exact funext (pay34_row d r)
    rmin := by
      dsimp only
      rw [pay35_row, wiped_two]
      rfl
    nA := fun c => by
      dsimp only
      rw [pay36_row]
      rfl
    nB := fun c => by
      dsimp only
      rw [pay37_row]
      rfl
    cnt := by
      change k0_pay38 (F := Ideal) v1 d d (ix2 r 0) = _
      rw [pay38_row, pay36_row, pay37_row]
      simp only [Finset.sum_range_succ, Finset.sum_range_zero, zero_add]
      rfl
    acc := fun o => pay29_at r o }

theorem fast_succ (r : Fin 1024) (k : ℕ) (p : Fast Ideal) (s : FVec Ideal S1024x1024 .f32) (h : FastAt W v1 v8 d r k p s) :
    FastAt W v1 v8 d r (k + 1) (fastStep W v1 v8 p s) (k0_pay6 p.2.2.2.2 s) := by
  have hq : p.2.2.2.2 (ix2 r 0) = low (row s r) := by rw [h.rmin, h.block]
  have e3 : ∀ c, k0_pay8 (F := Ideal) v1 p.2.2.2.2 s (ix2 r c) = fastNb v1 d r (2 * k + 2) c := fun c => by
    rw [pay8_row v1 _ s r hq, h.block]
  have e4 : ∀ c, k0_pay9 (F := Ideal) v1 p.2.2.2.2 s (ix2 r c) = fastNb v1 d r (2 * k + 3) c := fun c => by
    rw [pay9_row v1 _ s r hq, h.block]; rfl
  exact {
    block := by
      rw [show 2 * (k + 1) + 2 = 2 * k + 2 + 2 by ring, wiped_two, ← h.block]
      exact funext (pay6_row _ s r hq)
    rmin := by
      dsimp only [fastStep]
      rw [pay7_row _ s r hq, show 2 * (k + 1) + 2 = 2 * k + 2 + 2 by ring, wiped_two, ← h.block]
    nA := fun c => by
      dsimp only [fastStep]
      rw [e3, show 2 * (k + 1) = 2 * k + 2 by ring]
    nB := fun c => by
      dsimp only [fastStep]
      rw [e4, show 2 * (k + 1) + 1 = 2 * k + 3 by ring]
    cnt := by
      change k0_pay10 (F := Ideal) v1 p.2.1 p.2.2.2.2 s (ix2 r 0) = _
      rw [pay10_row, e3, e4, h.cnt, show 2 * (k + 1) + 2 = 2 * k + 2 + 1 + 1 by ring, Finset.sum_range_succ _ (2 * k + 2 + 1),
        Finset.sum_range_succ _ (2 * k + 2), add_assoc]
    acc := fun o => by
      change joinB W v8 (joinA W v8 p.1 p.2.2.1) p.2.2.2.1 (ix2 r o) = _
      rw [joinB_at, joinA_at, h.acc, funext h.nA, funext h.nB]
      rfl }

theorem fast_at (r : Fin 1024) (k : ℕ) :
    FastAt W v1 v8 d r k (fastVal W v1 v8 (fastInit v1 d) (k0_pay34 d (k0_pay28 d)) k).1
      (fastVal W v1 v8 (fastInit v1 d) (k0_pay34 d (k0_pay28 d)) k).2 := by
  induction k with
  | zero => exact fast_zero W v1 v8 d r
  | succ k ih => exact fast_succ W v1 v8 d r k _ _ ih

/-- The one-at-a-time search takes the features of the nearest point. -/
theorem slowStep_row (acc : FVec Ideal S1024x64 .f32) (s : FVec Ideal S1024x1024 .f32) (r : Fin 1024) (o : Fin 64) :
    slowStep W v1 v8 lanes acc s (ix2 r o)
      = max (acc (ix2 r o)) (msg W (own v8 r) (fun c => v1 (ix2 (first (row s r)) c)) o) := by
  rw [slowStep_at]
  congr 2
  funext c
  simp only [pay20_row, bit_val]
  simp

theorem marked_one (M : EReal) (s : Fin 1024 → EReal) (k : ℕ) : marked M s (k + 1) = mark M (marked M s k) := rfl

theorem slow_at (r : Fin 1024) (k : ℕ) :
    (row (slowVal W v1 v8 lanes (k0_pay29 (F := Ideal)) d k).2 r = marked M (row d r) k)
      ∧ ∀ o, (slowVal W v1 v8 lanes (k0_pay29 (F := Ideal)) d k).1 (ix2 r o)
          = best (fun i => msg W (own v8 r) (nearNb v1 d r i) o) k := by
  induction k with
  | zero => exact ⟨rfl, fun o => pay29_at r o⟩
  | succ k ih =>
    refine ⟨?_, fun o => ?_⟩
    · rw [marked_one, ← ih.1]
      dsimp only [slowVal]
      exact funext (pay21_row _ r)
    · change slowStep W v1 v8 lanes (slowVal W v1 v8 lanes (k0_pay29 (F := Ideal)) d k).1
        (slowVal W v1 v8 lanes (k0_pay29 (F := Ideal)) d k).2 (ix2 r o) = _
      rw [slowStep_row, ih.2, ih.1]; rfl

/-- Summing ones over the places struck out counts them. -/
theorem hitSum_one (s : Fin 1024 → EReal) : hitSum s (fun _ => 1) = (((hits s).card : ℕ) : EReal) := by
  unfold hitSum hits
  simp only [mul_one]
  rw [Finset.card_filter]
  push_cast
  rfl

theorem hitSum_single (s : Fin 1024 → EReal) (h : (hits s).card = 1) (v : Fin 1024 → EReal) : hitSum s v = v (first s) := by
  unfold hitSum
  simp only [hit_iff_of_card s h]
  simp

theorem count_bits : Ideal.ofBits .f32 0x46A00000#32 = ((1024 * 20 : ℕ) : EReal) := by
  simp [Ideal.ofBits, Ideal.ieee]
  rw [← EReal.coe_mul]
  norm_num
  norm_cast

/-- If the count is as it should be, each smallest entry of the first twenty stood in a single place. -/
theorem all_single (h19 : ∀ x, v1 (ix2 x 19) = 1) (cnt : FVec Ideal S1024x1 .f32)
    (hc : ∀ r, cnt (ix2 r 0) = ∑ i ∈ Finset.range 20, fastNb v1 d r i 19) (hs : Single cnt) (r : Fin 1024) (i : ℕ) (hi : i < 20) :
    (hits (wiped M (row d r) i)).card = 1 := by
  refine all_one 20 1024 (fun r i => (hits (wiped M (row d r) i)).card) (fun r i => card_hits_pos _) ?_ r i hi
  have hsum : k0_pay46 (F := Ideal) cnt = Ideal.ofBits .f32 0x46A00000#32 := by
    have : Scalar.cmpi .ne ((Scalar.extui (BitVec.ofBool (decide (k0_pay46 (F := Ideal) cnt = Ideal.ofBits .f32 0x46A00000#32))) : BitVec 32)) 0#32 = 1#1 := hs
    by_contra hne
    rw [decide_eq_false hne] at this
    exact absurd this (by decide)
  rw [pay46_at, count_bits] at hsum
  have hcol : col v1 19 = fun _ => 1 := funext h19
  simp only [hc, fastNb, hcol, hitSum_one] at hsum
  exact_mod_cast hsum

/-- What the body keeps of row `r`: the greatest message of its twenty nearest points. -/
theorem bodyMax_at (x1 : Vec Ideal S1024x20 .f32) (x2 : Vec Ideal S3x1024 .f32) (h19 : ∀ x, x1 (ix2 x 19) = 1) (r : Fin 1024) (o : Fin 64) :
    bodyMax W x1 x2 v8 (ix2 r o) = best (fun i => msg W (own v8 r) (nearNb x1 (dist x1 x2) r i) o) 20 := by
  have h25 : k0_pay25 (F := Ideal) x1 = x1 := by
    funext j; rw [eq_ix2 j]; pointwise [k0_pay25]
  unfold bodyMax
  have hfast := fun r => fast_at W x1 v8 (dist x1 x2) r 9
  have hend : fastEnd W x1 x2 v8 = (fastVal W x1 v8 (fastInit x1 (dist x1 x2)) (k0_pay34 (dist x1 x2) (k0_pay28 (dist x1 x2))) 9).1 := by
    unfold fastEnd; rw [h25]
  split
  · next hs =>
    have hone := all_single x1 (dist x1 x2) h19 _ (fun r => by rw [hend]; exact (hfast r).cnt) hs r
    have hnb : ∀ i < 20, fastNb x1 (dist x1 x2) r i = nearNb x1 (dist x1 x2) r i := by
      intro i hi
      funext c
      change hitSum (wiped M (row (dist x1 x2) r) i) (col x1 c) = x1 (ix2 (first (marked M (row (dist x1 x2) r) i)) c)
      rw [hitSum_single _ (hone i hi), wiped_eq_marked M _ i fun l hl => hone l (by omega)]
    rw [fastMax_at, hend, (hfast r).acc, funext (hfast r).nA, funext (hfast r).nB]
    exact best_congr (fun i => msg W (own v8 r) (fastNb x1 (dist x1 x2) r i) o) _ 20 fun i hi => by rw [hnb i hi]
  · unfold slowMax
    rw [h25, distAgain_eq]
    exact (slow_at W x1 v8 (dist x1 x2) r 20).2 o

end Cert.KernelIdeal.Body

end
-- ==== Proof.RefRead.lean ====
/- The reference program's values, read at an entry. -/
module

public import proofs.«01_k».proof.Proof.Gen.ReferenceIdeal.Run
public import proofs.«01_k».proof.Proof.Nearest
public import Idealize.ShloMosaic.Lib.Pointwise
public import Idealize.ShloMosaic.Lib.Routing.Ops
public import Idealize.ShloMosaic.Lib.Routing.OpsPair

@[expose] public section

set_option maxRecDepth 16384

noncomputable section

namespace Cert.ReferenceIdeal.Read

open Cert.ReferenceIdeal Cert.ReferenceIdeal.Gen Cert.ReferenceIdeal.Value
open Idealize.ShloMosaic Idealize.ShloMosaic.TcCoe
open Idealize.SL.Sem
open Cert.KernelIdeal.Body (best)

/-- The place of point `x`'s edge `k` among all edges. -/
def edge (x : Fin 16384) (k : Fin 20) : Fin 327680 := ⟨x.val * 20 + k.val, by omega⟩

variable (V0 : Valuation τ sig (Elt Ideal))

/-- The arguments, by name. -/
abbrev aG : FVec Ideal S16384x3 .f32 := V0 (Proc.devRef .tc main_arg0)
abbrev aX : FVec Ideal S16384x16 .f32 := V0 (Proc.devRef .tc main_arg1)
abbrev aW1 : FVec Ideal S6x64 .f32 := V0 (Proc.devRef .tc main_arg3)
abbrev aB1 : FVec Ideal S64 .f32 := V0 (Proc.devRef .tc main_arg4)
abbrev aW2 : FVec Ideal S64x64 .f32 := V0 (Proc.devRef .tc main_arg5)
abbrev aB2 : FVec Ideal S64 .f32 := V0 (Proc.devRef .tc main_arg6)
abbrev aA1 : FVec Ideal S32x64 .f32 := V0 (Proc.devRef .tc main_arg7)
abbrev aAb1 : FVec Ideal S64 .f32 := V0 (Proc.devRef .tc main_arg8)
abbrev aA2 : FVec Ideal S64x128 .f32 := V0 (Proc.devRef .tc main_arg9)
abbrev aAb2 : FVec Ideal S128 .f32 := V0 (Proc.devRef .tc main_arg10)
abbrev aLg : FVec Ideal S64 .f32 := V0 (Proc.devRef .tc main_arg11)
abbrev aLb : FVec Ideal S64 .f32 := V0 (Proc.devRef .tc main_arg12)

/-- A point's frame and its place in the frame. -/
def frame (x : Fin 16384) : Fin 16 := ⟨x.val / 1024, by omega⟩
def lane (x : Fin 16384) : Fin 1024 := ⟨x.val % 1024, by omega⟩
/-- A point from its frame and its place there. -/
def pt (f : Fin 16) (r : Fin 1024) : Fin 16384 := ⟨f.val * 1024 + r.val, by omega⟩

theorem pt_frame_lane (x : Fin 16384) : pt (frame x) (lane x) = x := Fin.ext (by unfold pt frame lane; dsimp only; omega)

/-- The squared distance of two points of a frame, a point's own pushed away. -/
def far (f : Fin 16) (r o : Fin 1024) : EReal :=
  ∑ a, (aG V0 (ix2 (pt f r) a) - aG V0 (ix2 (pt f o) a)) * (aG V0 (ix2 (pt f r) a) - aG V0 (ix2 (pt f o) a))
    + if r = o then Ideal.ofBits .f32 0x501502F9#32 else 0

theorem v33_at (x : Fin 16384) (k : Fin 20) : (res_main_v33 V0 : IVec S327680 32) (ix1 (edge x k)) = BitVec.ofNat 32 x.val := by
  pointwise [res_main_v33, res_main_v23, edge]
  unfold IntOp.addi IntOp.muli
  rw [← BitVec.ofNat_mul, ← BitVec.ofNat_add]
  congr 1
  omega

theorem bit_real (p : Prop) [Decidable p] : FloatOps.uitofp (F := Ideal) .f32 (BitVec.ofBool (decide p)) = if p then (1 : EReal) else 0 := by
  change (((BitVec.ofBool (decide p)).toNat : ℝ) : EReal) = _
  by_cases h : p <;> simp [h]

theorem v19_at (f : Fin 16) (r o : Fin 1024) : (res_main_v19 V0 : FVec Ideal S16x1024x1024 .f32) (ix3 f r o) = - far V0 f r o := by
  pointwise [res_main_v19, res_main_v5, res_main_v0]
  rw [show IntOp.addi (BitVec.ofNat 32 r.val) 0#32 = BitVec.ofNat 32 r.val from BitVec.add_zero _, Cert.KernelIdeal.Body.lane_eq, bit_real]
  unfold far
  split
  · rw [one_mul]; rfl
  · rw [zero_mul]; rfl

/-- A last-axis position put into an index of a three-axis array. -/
theorem along_last {A B C : Nat} (j : (⟨3, ![A, B, C]⟩ : Shape).Idx) (a : Fin C) : j.along (2 : Fin 3) a = ix3 (j 0) (j 1) a := by
  funext i
  fin_cases i <;> rfl

/-- The positions of the first entries of a row, by the row's stable sort. -/
theorem top_rows {α : Type} {A B C K : Nat} (hK : K ≤ C) (gt : α → α → BitVec 1) (x : (⟨3, ![A, B, C]⟩ : Shape).Idx → α)
    (h : (⟨3, ![A, B, C]⟩ : Shape).Slices (fun _ => 0) ⟨3, ![A, B, K]⟩) (f : Fin A) (r : Fin B) (k : Fin K) :
    (Host.topK ⟨3, ![A, B, K]⟩ 2 gt x h).2 (ix3 f r k)
      = BitVec.ofNat 32 (sortedFrom (fun a b : Fin C => gt (x (ix3 f r a)) (x (ix3 f r b)) == 1#1) ⟨k.val, Nat.lt_of_lt_of_le k.isLt hK⟩).val := by
  have at_row : ∀ j : (⟨3, ![A, B, C]⟩ : Shape).Idx, j 0 = f → j 1 = r → (j 2).val = k.val →
      BitVec.ofNat 32 (j.along (2 : Fin 3) (sortedFrom (fun a b : Fin C => gt (x (j.along (2 : Fin 3) a)) (x (j.along (2 : Fin 3) b)) == 1#1) (j 2 : Fin C)) 2).val
        = BitVec.ofNat 32 (sortedFrom (fun a b : Fin C => gt (x (ix3 f r a)) (x (ix3 f r b)) == 1#1) ⟨k.val, Nat.lt_of_lt_of_le k.isLt hK⟩).val := by
    intro j h0 h1 h2
    have hk : (j 2 : Fin C) = ⟨k.val, Nat.lt_of_lt_of_le k.isLt hK⟩ := Fin.ext h2
    simp only [along_last, h0, h1, hk]
    rfl
  unfold Host.topK Host.sort2
  simp only [dif_pos (show 2 < (⟨3, ![A, B, C]⟩ : Shape).rank from (by decide : 2 < 3))]
  exact at_row _ (Fin.ext (Nat.zero_add _)) (Fin.ext (Nat.zero_add _)) (Nat.zero_add _)

theorem gather3_at (v : IVec S327680 32) (n : Fin 16384) (x : FVec Ideal S16384x3 .f32) (e : Fin 327680) (a : Fin 3) (hv : v (ix1 e) = BitVec.ofNat 32 n.val) :
    Host.gather gather_S16384x3_S327680x1_S327680x3_1_0_n_n_0_1_13 x
      (broadcastInDim S327680x1 ![0] bcast_S327680_S327680x1_0 (select (cmpi .slt v (broadcastInDim S327680 ![] bcast_S_S327680 (constantI S_ 32 0#32)))
        (addi v (broadcastInDim S327680 ![] bcast_S_S327680 (constantI S_ 32 16384#32))) v)) (ix2 e a) = x (ix2 n a) := by
  rw [ix2_eq_valueIdx, ix2_eq_valueIdx]
  refine Routing.gather_row _ rfl rfl rfl rfl rfl _ _ e a n ?_ (by decide)
  rw [← ix2_eq_valueIdx]
  pointwise
  rw [hv]
  exact Routing.wrap_of_lt _ _ (by rw [BitVec.toNat_ofNat]; omega)

theorem gather16_at (v : IVec S327680 32) (n : Fin 16384) (x : FVec Ideal S16384x16 .f32) (e : Fin 327680) (a : Fin 16) (hv : v (ix1 e) = BitVec.ofNat 32 n.val) :
    Host.gather gather_S16384x16_S327680x1_S327680x16_1_0_n_n_0_1_116 x
      (broadcastInDim S327680x1 ![0] bcast_S327680_S327680x1_0 (select (cmpi .slt v (broadcastInDim S327680 ![] bcast_S_S327680 (constantI S_ 32 0#32)))
        (addi v (broadcastInDim S327680 ![] bcast_S_S327680 (constantI S_ 32 16384#32))) v)) (ix2 e a) = x (ix2 n a) := by
  rw [ix2_eq_valueIdx, ix2_eq_valueIdx]
  refine Routing.gather_row _ rfl rfl rfl rfl rfl _ _ e a n ?_ (by decide)
  rw [← ix2_eq_valueIdx]
  pointwise
  rw [hv]
  exact Routing.wrap_of_lt _ _ (by rw [BitVec.toNat_ofNat]; omega)

/-- The `k`-th nearest point of a frame to a point of it. -/
def rank (f : Fin 16) (r : Fin 1024) (k : Fin 20) : Fin 1024 :=
  sortedFrom (fun a b : Fin 1024 => decide (far V0 f r a < far V0 f r b)) ⟨k.val, by omega⟩

theorem near_at (f : Fin 16) (r : Fin 1024) (k : Fin 20) :
    (Host.topK S16x1024x20 2 (FloatOps.cmpfTotal (F := Ideal) (φ := .f32) .gt) (res_main_v19 V0 : FVec Ideal S16x1024x1024 .f32) sliceFits_S16x1024x1024_S16x1024x20).2 (ix3 f r k)
      = BitVec.ofNat 32 (rank V0 f r k).val := by
  refine (top_rows (by decide) _ _ _ f r k).trans ?_
  unfold rank
  simp only [v19_at]
  have hb (u v : EReal) : (FloatOps.cmpfTotal (F := Ideal) (φ := .f32) .gt (-u) (-v) == 1#1) = decide (u < v) := by
    change (BitVec.ofBool (decide (-v < -u)) == 1#1) = _
    simp only [EReal.neg_lt_neg_iff]
    by_cases h : u < v <;> simp [h]
  simp only [hb]

/-- The neighbour at place `k` of a point's list. -/
def nbr (x : Fin 16384) (k : Fin 20) : Fin 16384 :=
  pt (frame x) (rank V0 (frame x) (lane x) k)

theorem v26_at (x : Fin 16384) (k : Fin 20) : (res_main_v26 V0 : IVec S327680 32) (ix1 (edge x k)) = BitVec.ofNat 32 (nbr V0 x k).val := by
  pointwise [res_main_v26, res_main_v23, edge]
  have hf : (⟨(x.val * 20 + k.val) / 20480, by omega⟩ : Fin 16) = frame x := Fin.ext (by unfold frame; dsimp only; omega)
  have hr : (⟨(x.val * 20 + k.val) / 20 % 1024, by omega⟩ : Fin 1024) = lane x := Fin.ext (by unfold lane; dsimp only; omega)
  rw [hf, hr, near_at]
  unfold IntOp.addi IntOp.muli
  rw [← BitVec.ofNat_mul, ← BitVec.ofNat_add]
  refine congrArg (BitVec.ofNat 32) ?_
  unfold nbr pt frame
  dsimp only
  omega

/-- The first layer on an edge: of the coordinates, of the other features. -/
def hidG (x j : Fin 16384) (q : Fin 64) : EReal :=
  max (∑ a : Fin 3, aG V0 (ix2 x a) * aW1 V0 (ix2 ⟨a.val, by omega⟩ q)
    + ∑ a : Fin 3, (aG V0 (ix2 j a) - aG V0 (ix2 x a)) * aW1 V0 (ix2 ⟨3 + a.val, by omega⟩ q) + aB1 V0 (ix1 q)) 0

def hidX (x j : Fin 16384) (q : Fin 64) : EReal :=
  max (∑ a : Fin 16, aX V0 (ix2 x a) * aA1 V0 (ix2 ⟨a.val, by omega⟩ q)
    + ∑ a : Fin 16, aX V0 (ix2 j a) * aA1 V0 (ix2 ⟨16 + a.val, by omega⟩ q) + aAb1 V0 (ix1 q)) 0

/-- The second layer of the other features, which gives the gate and the shift. -/
def gate (x j : Fin 16384) (p : Fin 128) : EReal := ∑ q, hidX V0 x j q * aA2 V0 (ix2 q p) + aAb2 V0 (ix1 p)

/-- The message along an edge. -/
def edgeMsg (x j : Fin 16384) (o : Fin 64) : EReal :=
  Ideal.div 1 (1 + Ideal.exp (-(gate V0 x j ⟨o.val, by omega⟩ + 1)))
      * max (∑ q, hidG V0 x j q * aW2 V0 (ix2 q o) + aB2 V0 (ix1 o)) 0
    + gate V0 x j ⟨64 + o.val, by omega⟩

theorem v83_at (x : Fin 16384) (k : Fin 20) (p : Fin 128) : (res_main_v83 V0 : FVec Ideal S327680x128 .f32) (ix2 (edge x k) p) = gate V0 x (nbr V0 x k) p := by
  pointwise [res_main_v83]
  simp only [gather16_at _ _ _ _ _ (v33_at V0 x k), gather16_at _ _ _ _ _ (v26_at V0 x k)]
  rfl

theorem v40_at (x : Fin 16384) (k : Fin 20) (a : Fin 3) : (res_main_v40 V0 : FVec Ideal S327680x3 .f32) (ix2 (edge x k) a) = aG V0 (ix2 x a) :=
  gather3_at _ _ _ _ _ (v33_at V0 x k)

/-- The greatest message of a point's list. -/
theorem v97_at (x : Fin 16384) (o : Fin 64) : (res_main_v97 V0 : FVec Ideal S16384x64 .f32) (ix2 x o)
    = Finset.univ.fold max ⊥ fun k : Fin 20 => edgeMsg V0 x (nbr V0 x k) o := by
  pointwise [res_main_v97]
  have he (k : Fin 20) : (⟨x.val * 20 + k.val, by omega⟩ : Fin 327680) = edge x k := rfl
  simp only [he, v83_at, v40_at, gather3_at _ _ _ _ _ (v26_at V0 x _)]
  rw [show Ideal.ofBits FTy.f32 4286578688#32 = ⊥ from by simp [Ideal.ofBits, Ideal.ieee]]
  rfl

end Cert.ReferenceIdeal.Read

end
-- ==== Proof.Edge.lean ====
/- The message of an edge: the kernel's two wide layers, whose weights are laid out in blocks, give what the reference
   program's layers give on the edge's features. -/
module

public import proofs.«01_k».proof.Proof.Operands
public import proofs.«01_k».proof.Proof.Nearest
public import proofs.«01_k».proof.Proof.RefRead

@[expose] public section

set_option maxRecDepth 16384

noncomputable section

namespace Cert.KernelIdeal.Body

open Cert.KernelIdeal Cert.KernelIdeal.Gen
open Idealize.ShloMosaic Idealize.ShloMosaic.TcCoe
open Idealize.SL.Sem

/-! ## Sums -/

/-- A sum over a point's features: its coordinates, its other features, its one. -/
theorem sum_feats (f : Fin 20 → EReal) :
    ∑ c, f c = ∑ a : Fin 3, f ⟨a.val, by omega⟩ + ∑ b : Fin 16, f ⟨3 + b.val, by omega⟩ + f ⟨19, by omega⟩ := by
  rw [Fin.sum_univ_castSucc]
  refine congrArg₂ (· + ·) ?_ rfl
  exact Fin.sum_univ_add (a := 3) (b := 16) fun c : Fin 19 => f c.castSucc

/-- A real number times a difference whose second term is real. -/
theorem real_mul_sub (g w : ℝ) (A : EReal) : (g : EReal) * (A - w) = g * A + ((-(g * w) : ℝ) : EReal) := by
  rw [sub_eq_add_neg, ← EReal.coe_neg]
  rcases le_total 0 g with h | h
  · rw [EReal.left_distrib_of_nonneg_of_ne_top (EReal.coe_nonneg.2 h) (EReal.coe_ne_top _), ← EReal.coe_mul, mul_neg]
  · have hn : (g : EReal) = -((-g : ℝ) : EReal) := by rw [EReal.coe_neg, neg_neg]
    rw [hn, neg_mul, neg_mul, EReal.left_distrib_of_nonneg_of_ne_top (EReal.coe_nonneg.2 (neg_nonneg.2 h)) (EReal.coe_ne_top _), ← EReal.coe_mul,
      EReal.neg_add (Or.inr (EReal.coe_ne_top _)) (Or.inr (EReal.coe_ne_bot _)), sub_eq_add_neg, ← EReal.coe_neg]
    congr 2
    ring

/-- The first layer on the coordinates: the point's own part and the neighbour's, against the edge's. -/
theorem coords_eq (p n A : Fin 3 → EReal) (w : Fin 3 → EReal) (b : EReal) (hp : ∀ a, ∃ g : ℝ, p a = g) (hn : ∀ a, ∃ g : ℝ, n a = g)
    (hw : ∀ a, ∃ g : ℝ, w a = g) :
    (∑ a, p a * (A a - w a) + b) + ∑ a, n a * w a = ∑ a, p a * A a + ∑ a, (n a - p a) * w a + b := by
  choose p' hp using hp
  choose n' hn using hn
  choose w' hw using hw
  have h1 (a : Fin 3) : p a * (A a - w a) = p a * A a + ((-(p' a * w' a) : ℝ) : EReal) := by
    rw [hp, hw, real_mul_sub]
  have h2 (a : Fin 3) : (n a - p a) * w a = ((-(p' a * w' a) : ℝ) : EReal) + n a * w a := by
    rw [hp, hn, hw]
    norm_cast
    ring
  simp only [h1, h2, Finset.sum_add_distrib]
  rw [add_right_comm, add_assoc (∑ a, p a * A a), ]

/-! ## The layers -/

variable (m : (ℓ : Loc nD τ sig) → Buf (Elt Ideal) ℓ) (c : Dev nD)

/-- A point's features. -/
def ft (x : Fin 16384) (k : Fin 20) : EReal := (V m c main_v1 : FVec Ideal S16384x20 .f32) (ix2 x k)
/-- The two first-layer weight arrays and the bias, as the kernel is given them. -/
def wp (k : Fin 20) (q : Fin 128) : EReal := (V m c main_v15 : FVec Ideal S20x128 .f32) (ix2 k q)
def wc (k : Fin 20) (q : Fin 128) : EReal := (V m c main_v26 : FVec Ideal S20x128 .f32) (ix2 k q)
def bp (q : Fin 128) : EReal := (V m c main_v28 : FVec Ideal S1x128 .f32) (ix2 0 q)

theorem ft_geom (x : Fin 16384) (a : Fin 3) : ft m c x ⟨a.val, by omega⟩ = aG m c (ix2 x a) := by
  unfold ft; rw [feats_at, dif_pos a.isLt]
theorem ft_aux (x : Fin 16384) (b : Fin 16) : ft m c x ⟨3 + b.val, by omega⟩ = aX m c (ix2 x b) := by
  unfold ft; rw [feats_at, dif_neg (by dsimp only; omega), dif_pos (by dsimp only; omega)]
  congr 2; apply Fin.ext; dsimp only; omega
theorem ft_one (x : Fin 16384) : ft m c x 19 = 1 := by
  unfold ft; rw [feats_at, dif_neg (by decide), dif_neg (by decide)]

theorem wp_lo_geom (a : Fin 3) (q : Fin 64) : wp m c ⟨a.val, by omega⟩ (lo q)
    = aW1 m c (ix2 ⟨a.val, by omega⟩ q) - aW1 m c (ix2 ⟨3 + a.val, by omega⟩ q) := by
  unfold wp; rw [wpre_at, dif_neg (by dsimp only; omega), dif_pos (by dsimp only; omega)]
theorem wp_lo_aux (b : Fin 16) (q : Fin 64) : wp m c ⟨3 + b.val, by omega⟩ (lo q) = 0 := by
  unfold wp; rw [wpre_at, dif_neg (by dsimp only; omega), dif_neg (by dsimp only; omega)]
theorem wp_hi_geom (a : Fin 3) (q : Fin 64) : wp m c ⟨a.val, by omega⟩ (hi q) = 0 := by
  unfold wp; rw [wpre_at, dif_neg (by dsimp only; omega), dif_neg (by dsimp only; omega)]
theorem wp_hi_aux (b : Fin 16) (q : Fin 64) : wp m c ⟨3 + b.val, by omega⟩ (hi q) = aA1 m c (ix2 ⟨b.val, by omega⟩ q) := by
  unfold wp; rw [wpre_at, dif_pos (by dsimp only; omega)]
  congr 2 <;> apply Fin.ext <;> dsimp only <;> omega
theorem wp_one (q : Fin 128) : wp m c ⟨19, by omega⟩ q = 0 := by
  unfold wp; rw [wpre_at, dif_neg (by dsimp only; omega), dif_neg (by dsimp only; omega)]

theorem wc_lo_geom (a : Fin 3) (q : Fin 64) : wc m c ⟨a.val, by omega⟩ (lo q) = aW1 m c (ix2 ⟨3 + a.val, by omega⟩ q) := by
  unfold wc; rw [wcat_at, dif_neg (by dsimp only; omega), dif_pos (by dsimp only; omega)]
theorem wc_lo_aux (b : Fin 16) (q : Fin 64) : wc m c ⟨3 + b.val, by omega⟩ (lo q) = 0 := by
  unfold wc; rw [wcat_at, dif_neg (by dsimp only; omega), dif_neg (by dsimp only; omega)]
theorem wc_hi_geom (a : Fin 3) (q : Fin 64) : wc m c ⟨a.val, by omega⟩ (hi q) = 0 := by
  unfold wc; rw [wcat_at, dif_neg (by dsimp only; omega), dif_neg (by dsimp only; omega)]
theorem wc_hi_aux (b : Fin 16) (q : Fin 64) : wc m c ⟨3 + b.val, by omega⟩ (hi q) = aA1 m c (ix2 ⟨16 + b.val, by omega⟩ q) := by
  unfold wc; rw [wcat_at, dif_pos (by dsimp only; omega)]
  congr 2 <;> apply Fin.ext <;> dsimp only <;> omega
theorem wc_one (q : Fin 128) : wc m c ⟨19, by omega⟩ q = 0 := by
  unfold wc; rw [wcat_at, dif_neg (by dsimp only; omega), dif_neg (by dsimp only; omega)]

theorem bp_lo (q : Fin 64) : bp m c (lo q) = aB1 m c (ix1 q) := by
  unfold bp; rw [bpre_at, dif_pos q.isLt]
theorem bp_hi (q : Fin 64) : bp m c (hi q) = aAb1 m c (ix1 q) := by
  unfold bp; rw [bpre_at, dif_neg (by dsimp only; omega)]
  congr 2; apply Fin.ext; dsimp only; omega

/-- A point's own part of the first layer. -/
def ownRow (x : Fin 16384) (q : Fin 128) : EReal := ∑ k, ft m c x k * wp m c k q + bp m c q

/-- The coordinates and the second half of the first weights are real numbers. -/
structure RealArgs : Prop where
  geom : ∀ x a, ∃ g : ℝ, aG m c (ix2 x a) = g
  weight : ∀ (a : Fin 3) q, ∃ g : ℝ, aW1 m c (ix2 ⟨3 + a.val, by omega⟩ q) = g

theorem layer_lo (h : RealArgs m c) (x j : Fin 16384) (q : Fin 64) :
    ownRow m c x (lo q) + ∑ k, ft m c j k * wc m c k (lo q)
      = ∑ a : Fin 3, aG m c (ix2 x a) * aW1 m c (ix2 ⟨a.val, by omega⟩ q)
        + ∑ a : Fin 3, (aG m c (ix2 j a) - aG m c (ix2 x a)) * aW1 m c (ix2 ⟨3 + a.val, by omega⟩ q) + aB1 m c (ix1 q) := by
  unfold ownRow
  rw [sum_feats, sum_feats, wp_one, wc_one]
  simp only [ft_geom, ft_aux, wp_lo_geom, wp_lo_aux, wc_lo_geom, wc_lo_aux, bp_lo, mul_zero, Finset.sum_const_zero, add_zero]
  exact coords_eq _ _ _ _ _ (h.geom x) (h.geom j) fun a => h.weight a q

theorem layer_hi (x j : Fin 16384) (q : Fin 64) :
    ownRow m c x (hi q) + ∑ k, ft m c j k * wc m c k (hi q)
      = ∑ a : Fin 16, aX m c (ix2 x a) * aA1 m c (ix2 ⟨a.val, by omega⟩ q)
        + ∑ a : Fin 16, aX m c (ix2 j a) * aA1 m c (ix2 ⟨16 + a.val, by omega⟩ q) + aAb1 m c (ix1 q) := by
  unfold ownRow
  rw [sum_feats, sum_feats, wp_one, wc_one]
  simp only [ft_geom, ft_aux, wp_hi_geom, wp_hi_aux, wc_hi_geom, wc_hi_aux, bp_hi, mul_zero, Finset.sum_const_zero, add_zero, zero_add]
  exact add_right_comm _ _ _

/-! ## The message -/

/-- The reference program is run on the same arrays. -/
structure Agree (V0 : Valuation ReferenceIdeal.τ ReferenceIdeal.sig (Elt Ideal)) : Prop where
  g : aG m c = ReferenceIdeal.Read.aG V0
  x : aX m c = ReferenceIdeal.Read.aX V0
  w1 : aW1 m c = ReferenceIdeal.Read.aW1 V0
  b1 : aB1 m c = ReferenceIdeal.Read.aB1 V0
  w2 : aW2 m c = ReferenceIdeal.Read.aW2 V0
  b2 : aB2 m c = ReferenceIdeal.Read.aB2 V0
  a1 : aA1 m c = ReferenceIdeal.Read.aA1 V0
  ab1 : aAb1 m c = ReferenceIdeal.Read.aAb1 V0
  a2 : aA2 m c = ReferenceIdeal.Read.aA2 V0
  ab2 : aAb2 m c = ReferenceIdeal.Read.aAb2 V0
  lg : aLg m c = ReferenceIdeal.Read.aLg V0
  lb : aLb m c = ReferenceIdeal.Read.aLb V0

/-- The weights the body is given: the same at every grid point. -/
def wts : Wts Ideal where
  wcat := V m c main_v26
  w2 := aW2 m c
  b2 := V m c main_v29
  a2 := aA2 m c
  ab2 := V m c main_v30

theorem blk_wts (t : Fin cfg0.N) : (⟨iblk m c 4 t, iblk m c 5 t, iblk m c 6 t, iblk m c 7 t, iblk m c 8 t⟩ : Wts Ideal) = wts m c := by
  unfold wts
  rw [← blk4 m c t, ← blk5 m c t, ← blk6 m c t, ← blk7 m c t, ← blk8 m c t]

theorem wts_wcat (k : Fin 20) (q : Fin 128) : (wts m c).wcat (ix2 k q) = wc m c k q := rfl
theorem wts_w2 (p q : Fin 64) : (wts m c).w2 (ix2 p q) = aW2 m c (ix2 p q) := rfl
theorem wts_b2 (q : Fin 64) : (wts m c).b2 (ix2 0 q) = aB2 m c (ix1 q) := b2_at m c q
theorem wts_a2 (p : Fin 64) (q : Fin 128) : (wts m c).a2 (ix2 p q) = aA2 m c (ix2 p q) := rfl
theorem wts_ab2 (q : Fin 128) : (wts m c).ab2 (ix2 0 q) = aAb2 m c (ix1 q) := ab2_at m c q

variable {V0 : Valuation ReferenceIdeal.τ ReferenceIdeal.sig (Elt Ideal)}

theorem hid_lo (h : RealArgs m c) (e : Agree m c V0) (x j : Fin 16384) (q : Fin 64) :
    hid (wts m c) (ownRow m c x) (ft m c j) (lo q) = ReferenceIdeal.Read.hidG V0 x j q := by
  unfold hid ReferenceIdeal.Read.hidG
  simp only [wts_wcat]
  rw [layer_lo m c h, e.g, e.w1, e.b1]

theorem hid_hi (e : Agree m c V0) (x j : Fin 16384) (q : Fin 64) :
    hid (wts m c) (ownRow m c x) (ft m c j) (hi q) = ReferenceIdeal.Read.hidX V0 x j q := by
  unfold hid ReferenceIdeal.Read.hidX
  simp only [wts_wcat]
  rw [layer_hi m c, e.x, e.a1, e.ab1]

/-- The message the kernel computes for a neighbour is the message along that edge. -/
theorem msg_eq (h : RealArgs m c) (e : Agree m c V0) (x j : Fin 16384) (o : Fin 64) :
    msg (wts m c) (ownRow m c x) (ft m c j) o = ReferenceIdeal.Read.edgeMsg V0 x j o := by
  unfold msg ReferenceIdeal.Read.edgeMsg ReferenceIdeal.Read.gate
  simp only [hid_lo m c h e, hid_hi m c e, wts_w2, wts_b2, wts_a2, wts_ab2]
  rw [e.w2, e.b2, e.a2, e.ab2]
  rfl

end Cert.KernelIdeal.Body

end
-- ==== Proof.Bounds.lean ====
/- What the precondition says, and what follows for the distances: they are real numbers less than the mark a chosen place
   is given, so the body's search takes the points in the order of the reference program's sort. -/
module

public import proofs.«01_k».proof.Proof.Edge
public import proofs.«01_k».proof.Proof.Gen.Pre_moderate
public import proofs.«01_k».proof.Defs
public import Idealize.ShloMosaic.Lib.ReduceAll

@[expose] public section

set_option maxRecDepth 16384

noncomputable section

namespace Cert.KernelIdeal.Body

open Cert.KernelIdeal Cert.KernelIdeal.Gen
open Idealize.ShloMosaic Idealize.ShloMosaic.TcCoe
open Idealize.SL.Sem

/-! ## The precondition -/

theorem of_bit {p : Prop} [Decidable p] (h : BitVec.ofBool (decide p) = 1#1) : p := by
  by_contra hp
  rw [decide_eq_false hp] at h
  exact absurd h (by decide)

/-- The two conditions on arrays: coordinates of moderate size, finite weights in the second half. -/
theorem moderate_elim (g : FVec Ideal S16384x3 .f32) (x : FVec Ideal S16384x16 .f32) (bt : IVec S16384 32) (w1 : FVec Ideal S6x64 .f32)
    (b1 : FVec Ideal S64 .f32) (w2 : FVec Ideal S64x64 .f32) (b2 : FVec Ideal S64 .f32) (a1 : FVec Ideal S32x64 .f32) (ab1 : FVec Ideal S64 .f32)
    (a2 : FVec Ideal S64x128 .f32) (ab2 : FVec Ideal S128 .f32) (lg lb : FVec Ideal S64 .f32)
    (h : Cert.Pre_moderate.fn (F := Ideal) g x bt w1 b1 w2 b2 a1 ab1 a2 ab2 lg lb = fun _ => 1#1) :
    (∀ i a, max (g (ix2 i a)) (-g (ix2 i a)) ≤ Ideal.ofBits .f32 0x5D5E0B6B#32)
      ∧ ∀ (a : Fin 3) q, max (w1 (ix2 ⟨3 + a.val, by omega⟩ q)) (-w1 (ix2 ⟨3 + a.val, by omega⟩ q)) < Ideal.ofBits .f32 0x7F800000#32 := by
  have h0 := congrFun h ix0
  unfold Cert.Pre_moderate.fn at h0
  obtain ⟨hg, hw⟩ := IntOp.andi_eq_one.1 h0
  haveI : Subsingleton S_.Idx := ⟨fun a b => funext fun i => i.elim0⟩
  constructor
  · intro i a
    have := Host.reduce_andi_all _ _ _ _ _ hg (ix2 i a)
    exact of_bit (show BitVec.ofBool (decide (max (g (ix2 i a)) (-g (ix2 i a)) ≤ Ideal.ofBits .f32 0x5D5E0B6B#32)) = 1#1 from this)
  · intro a q
    have := Host.reduce_andi_all _ _ _ _ _ hw (ix2 a q)
    refine of_bit (show BitVec.ofBool (decide (max (w1 (ix2 ⟨3 + a.val, by omega⟩ q)) (-w1 (ix2 ⟨3 + a.val, by omega⟩ q)) < Ideal.ofBits .f32 0x7F800000#32)) = 1#1 from ?_)
    have e : extractStridedSlice S3x64 ![3, 0] w1 Cert.Pre_moderate.Gen.facts.slices_S6x64_S3x64_3_0 (ix2 a q) = w1 (ix2 ⟨3 + a.val, by omega⟩ q) := by
      pointwise
    rw [← e]
    exact this

/-- A number no greater in size than a real number is real. -/
theorem real_of_le (x : EReal) (B : ℝ) (h : max x (-x) ≤ B) : ∃ r : ℝ, x = r ∧ |r| ≤ B := by
  induction x with
  | bot => simp at h
  | top => simp at h
  | coe r =>
    refine ⟨r, rfl, ?_⟩
    rw [← EReal.coe_neg, max_le_iff] at h
    exact abs_le.2 ⟨by linarith [EReal.coe_le_coe_iff.1 h.2], EReal.coe_le_coe_iff.1 h.1⟩

theorem real_of_lt (x : EReal) (h : max x (-x) < ⊤) : ∃ r : ℝ, x = r := by
  induction x with
  | bot => simp at h
  | top => simp at h
  | coe r => exact ⟨r, rfl⟩

theorem size_word : Ideal.ofBits .f32 0x5D5E0B6B#32 = ((999999984306749440 : ℝ) : EReal) := by
  simp [Ideal.ofBits, Ideal.ieee]
  rw [← EReal.coe_pow, ← EReal.coe_mul]
  norm_num

theorem mark_word : M = ((300000000549775575777803994281145270272 : ℝ) : EReal) := by
  unfold M
  simp [Ideal.ofBits, Ideal.ieee]
  rw [← EReal.coe_pow, ← EReal.coe_mul]
  norm_num

theorem push_word : Ideal.ofBits .f32 0x501502F9#32 = ((10000000000 : ℝ) : EReal) := by
  simp [Ideal.ofBits, Ideal.ieee]
  rw [← EReal.coe_pow, ← EReal.coe_mul]
  norm_num

/-- The distances are less than the mark. -/
theorem far_lt (V0 : Valuation ReferenceIdeal.τ ReferenceIdeal.sig (Elt Ideal))
    (hg : ∀ x a, ∃ r : ℝ, ReferenceIdeal.Read.aG V0 (ix2 x a) = r ∧ |r| ≤ 999999984306749440) (f : Fin 16) (r o : Fin 1024) :
    ReferenceIdeal.Read.far V0 f r o < M := by
  choose g hg hb using hg
  unfold ReferenceIdeal.Read.far
  rw [mark_word, push_word]
  simp only [hg, Fin.sum_univ_three]
  have key (u v : ℝ) (hu : |u| ≤ 999999984306749440) (hv : |v| ≤ 999999984306749440) :
      (u - v) * (u - v) ≤ 4 * (10 ^ 18) ^ 2 := by
    rw [abs_le] at hu hv
    nlinarith
  have h0 := key _ _ (hb (ReferenceIdeal.Read.pt f r) 0) (hb (ReferenceIdeal.Read.pt f o) 0)
  have h1 := key _ _ (hb (ReferenceIdeal.Read.pt f r) 1) (hb (ReferenceIdeal.Read.pt f o) 1)
  have h2 := key _ _ (hb (ReferenceIdeal.Read.pt f r) 2) (hb (ReferenceIdeal.Read.pt f o) 2)
  split
  · norm_cast
    norm_num at h0 h1 h2 ⊢
    linarith
  · rw [add_zero]
    norm_cast
    norm_num at h0 h1 h2 ⊢
    linarith

end Cert.KernelIdeal.Body

end
-- ==== Proof.Norm.lean ====
/- The normalization of a row of greatest messages: multiplied by a reciprocal root, as the body does it, or divided by the
   root, as the reference program does. -/
module

public import proofs.«01_k».proof.Proof.Body
public import Idealize.ShloMosaic.Lib.Pointwise
public import Mathlib.Data.EReal.Inv

@[expose] public section

set_option maxRecDepth 16384

noncomputable section

namespace Cert.KernelIdeal.Body

open Cert.KernelIdeal Cert.KernelIdeal.Gen
open Idealize.ShloMosaic Idealize.ShloMosaic.TcCoe
open Idealize.SL.Sem

/-- What an entry differs by from its row's mean, and the row's variance. -/
def rowDev (y : Fin 64 → EReal) (o : Fin 64) : EReal := y o - Ideal.div (∑ p, y p) (Ideal.ofBits .f32 0x42800000#32)
def rowVar (y : Fin 64 → EReal) : EReal := Ideal.div (∑ p, rowDev y p * rowDev y p) (Ideal.ofBits .f32 0x42800000#32)

/-- A row normalized, scaled and shifted, and no less than zero. -/
def normRow (y : Fin 64 → EReal) (g b : EReal) (o : Fin 64) : EReal :=
  max (rowDev y o * Ideal.rsqrt (rowVar y + Ideal.ofBits .f32 0x3727C5AC#32) * g + b) 0

/-- The body's last step, at an entry. -/
theorem pay1_at (M : FVec Ideal S1024x64 .f32) (x10 x11 : FVec Ideal S1x64 .f32) (r : Fin 1024) (o : Fin 64) :
    (k0_pay1 (k0_pay49 M) x10 x11 : FVec Ideal S1024x64 .f32) (ix2 r o)
      = normRow (fun p => M (ix2 r p)) (x10 (ix2 0 o)) (x11 (ix2 0 o)) o := by
  pointwise [k0_pay1, k0_pay49, normRow, rowVar, rowDev]

theorem square_nonneg (x : EReal) : 0 ≤ x * x := by
  rcases le_total 0 x with h | h
  · exact mul_nonneg h h
  · rw [← neg_mul_neg]
    exact mul_nonneg (EReal.neg_nonneg.2 h) (EReal.neg_nonneg.2 h)

theorem div_word_nonneg (x : EReal) (h : 0 ≤ x) : 0 ≤ Ideal.div x (Ideal.ofBits .f32 0x42800000#32) := by
  have hw : (0 : EReal) < Ideal.ofBits .f32 0x42800000#32 := by
    simp [Ideal.ofBits, Ideal.ieee]
    rw [← EReal.coe_mul]
    exact_mod_cast (by norm_num : (0 : ℝ) < _)
  unfold Ideal.div
  rw [if_neg hw.ne']
  exact mul_nonneg h (EReal.inv_nonneg_of_nonneg hw.le)

theorem eps_pos : (0 : EReal) < Ideal.ofBits .f32 0x3727C5AC#32 := by
  simp [Ideal.ofBits, Ideal.ieee]
  rw [← EReal.coe_mul]
  exact_mod_cast (by norm_num : (0 : ℝ) < _)

/-- Dividing by the root of a positive number is multiplying by its reciprocal root. -/
theorem div_sqrt (x w : EReal) (hw : 0 < w) : Ideal.div x (Ideal.sqrt w) = x * Ideal.rsqrt w := by
  induction w with
  | bot => exact absurd hw (by simp)
  | top =>
    have h1 : Ideal.sqrt ⊤ = ⊤ := rfl
    have h2 : Ideal.rsqrt ⊤ = 0 := rfl
    rw [h1, h2]
    unfold Ideal.div
    rw [if_neg (by simp), EReal.inv_top]
  | coe r =>
    have hr : 0 < r := by exact_mod_cast hw
    have hs : (0 : ℝ) < Real.sqrt r := Real.sqrt_pos.2 hr
    have h0 : ((Real.sqrt r : ℝ) : EReal) ≠ 0 := by exact_mod_cast hs.ne'
    have h1 : Ideal.sqrt (r : EReal) = if r < 0 then ⊥ else ((Real.sqrt r : ℝ) : EReal) := rfl
    have h2 : Ideal.rsqrt (r : EReal) = if r < 0 then ⊥ else if r = 0 then ⊤ else (((Real.sqrt r)⁻¹ : ℝ) : EReal) := rfl
    rw [h1, h2, if_neg (not_lt.2 hr.le), if_neg (not_lt.2 hr.le), if_neg hr.ne']
    unfold Ideal.div
    rw [if_neg h0, EReal.coe_inv]

theorem rowVar_nonneg (y : Fin 64 → EReal) : 0 ≤ rowVar y :=
  div_word_nonneg _ (Finset.sum_nonneg fun _ _ => square_nonneg _)

theorem divided_eq (y : Fin 64 → EReal) (g b : EReal) (o : Fin 64) :
    max (Ideal.div (rowDev y o) (Ideal.sqrt (rowVar y + Ideal.ofBits .f32 0x3727C5AC#32)) * g + b) 0 = normRow y g b o := by
  rw [div_sqrt _ _ (lt_of_lt_of_le eps_pos (le_add_of_nonneg_left (rowVar_nonneg y)))]
  rfl

end Cert.KernelIdeal.Body

end
-- ==== Proof.RefNorm.lean ====
/- The reference program's last step, the normalization of a row, read at an entry. -/
module

public import proofs.«01_k».proof.Proof.RefRead
public import proofs.«01_k».proof.Proof.Norm

@[expose] public section

set_option maxRecDepth 16384

noncomputable section

namespace Cert.ReferenceIdeal.Read

open Cert.ReferenceIdeal Cert.ReferenceIdeal.Gen Cert.ReferenceIdeal.Value
open Idealize.ShloMosaic Idealize.ShloMosaic.TcCoe
open Idealize.SL.Sem
open Cert.KernelIdeal.Body (normRow divided_eq)

variable (M : FVec Ideal S16384x64 .f32) (g b : FVec Ideal S64 .f32)

/-- The mean of each row. -/
def mean : FVec Ideal S16384x1 .f32 :=
  Host.divf (broadcastInDim S16384x1 ![0] bcast_S16384_S16384x1_0 (Host.reduceAdd M (constant S_ .f32 0x00000000#32) reducesTo_S16384x64_S16384_d1 h_S_))
    (broadcastInDim S16384x1 ![] bcast_S_S16384x1 (constant S_ .f32 0x42800000#32))

/-- What each entry differs by from its row's mean. -/
def dev : FVec Ideal S16384x64 .f32 := subf M (broadcastInDim S16384x64 ![0, 1] bcast_S16384x1_S16384x64_0_1 (mean M))

/-- The number of entries of a row, as the variance divides by it. -/
def count : FVec Ideal S_ .f32 := subf (constant S_ .f32 0x42800000#32) (sitofp .f32 (constantI S_ 32 0#32))

/-- The variance of each row. -/
def var : FVec Ideal S16384x1 .f32 :=
  select (broadcastInDim S16384x1 ![] bcast_S_S16384x1 (cmpf .ogt count (constant S_ .f32 0x00000000#32)))
    (Host.divf (broadcastInDim S16384x1 ![0] bcast_S16384_S16384x1_0 (Host.reduceAdd (mulf (dev M) (dev M)) (constant S_ .f32 0x00000000#32) reducesTo_S16384x64_S16384_d1 h_S_))
      (broadcastInDim S16384x1 ![] bcast_S_S16384x1 count))
    (broadcastInDim S16384x1 ![] bcast_S_S16384x1 (id (constant S_ .f32 0x7FC00000#32)))

/-- The result array, of the array of the greatest messages. -/
def normed : FVec Ideal S16384x64 .f32 :=
  maximumf (addf (mulf (Host.divf (dev M) (broadcastInDim S16384x64 ![0, 1] bcast_S16384x1_S16384x64_0_1
      (Host.sqrt (addf (var M) (broadcastInDim S16384x1 ![] bcast_S_S16384x1 (constant S_ .f32 0x3727C5AC#32))))))
    (broadcastInDim S16384x64 ![0, 1] bcast_S1x64_S16384x64_0_1 (broadcastInDim S1x64 ![1] bcast_S64_S1x64_1 g)))
    (broadcastInDim S16384x64 ![0, 1] bcast_S1x64_S16384x64_0_1 (broadcastInDim S1x64 ![1] bcast_S64_S1x64_1 b)))
    (broadcastInDim S16384x64 ![] bcast_S_S16384x64 (constant S_ .f32 0x00000000#32))

theorem result_eq (V0 : Valuation τ sig (Elt Ideal)) :
    val3 V0 (Proc.devRef .tc main_v116) = normed (res_main_v97 V0) (aLg V0) (aLb V0) :=
  val3_main_v116 V0

theorem word_64 : Ideal.ofBits .f32 0x42800000#32 = ((64 : ℝ) : EReal) := by
  simp [Ideal.ofBits, Ideal.ieee]
  rw [← EReal.coe_mul]
  norm_num

theorem count_val : count = fun _ => Ideal.ofBits .f32 0x42800000#32 := by
  funext i
  change Ideal.ofBits .f32 0x42800000#32 - ((((0#32 : BitVec 32).toInt : ℝ)) : EReal) = _
  simp

theorem mean_at (x : Fin 16384) : mean M (ix2 x 0) = Ideal.div (∑ p, M (ix2 x p)) (Ideal.ofBits .f32 0x42800000#32) := by
  pointwise [mean]

theorem dev_at (x : Fin 16384) (o : Fin 64) : dev M (ix2 x o) = M (ix2 x o) - Ideal.div (∑ p, M (ix2 x p)) (Ideal.ofBits .f32 0x42800000#32) := by
  pointwise [dev]
  rw [mean_at]

theorem var_at (x : Fin 16384) : var M (ix2 x 0) = Ideal.div (∑ p, dev M (ix2 x p) * dev M (ix2 x p)) (Ideal.ofBits .f32 0x42800000#32) := by
  unfold var
  rw [count_val]
  pointwise
  rw [if_pos (by rw [word_64]; exact_mod_cast (by norm_num : (0 : ℝ) < 64))]

theorem normed_at (x : Fin 16384) (o : Fin 64) : normed M g b (ix2 x o)
    = max (Ideal.div (dev M (ix2 x o)) (Ideal.sqrt (var M (ix2 x 0) + Ideal.ofBits .f32 0x3727C5AC#32)) * g (ix1 o) + b (ix1 o)) 0 := by
  pointwise [normed]

theorem normed_row (x : Fin 16384) (o : Fin 64) :
    normed M g b (ix2 x o) = normRow (fun p => M (ix2 x p)) (g (ix1 o)) (b (ix1 o)) o := by
  rw [normed_at, var_at]
  simp only [dev_at]
  exact divided_eq (fun p => M (ix2 x p)) _ _ o

end Cert.ReferenceIdeal.Read

end
-- ==== Proof.Result.lean ====
/- The kernel's output array is the reference program's: entry by entry, what a grid point stores is the normed row of the
   greatest messages of the twenty nearest points. -/
module

public import proofs.«01_k».proof.Proof.Bounds
public import proofs.«01_k».proof.Proof.Norm
public import proofs.«01_k».proof.Proof.RefNorm
public import proofs.«01_k».proof.Proof.Run

@[expose] public section

set_option maxRecDepth 16384

noncomputable section

namespace Cert.KernelIdeal.Body

open Cert.KernelIdeal Cert.KernelIdeal.Gen
open Idealize.ShloMosaic Idealize.ShloMosaic.TcCoe
open Idealize.SL.Sem
open Cert.Pick

variable (m : (ℓ : Loc nD τ sig) → Buf (Elt Ideal) ℓ) (c : Dev nD)

/-- The frame a grid point works on. -/
def fr (t : Fin cfg0.N) : Fin 16 := ⟨t.val, (idx t).2.2.2.2.2.2.2.2.2.2.2.2⟩

theorem glob_eq (t : Fin cfg0.N) (r : Fin 1024) : glob t r = ReferenceIdeal.Read.pt (fr t) r := rfl

theorem frame_glob (t : Fin cfg0.N) (r : Fin 1024) : ReferenceIdeal.Read.frame (glob t r) = fr t :=
  Fin.ext (by unfold ReferenceIdeal.Read.frame glob fr; dsimp only; omega)

theorem lane_glob (t : Fin cfg0.N) (r : Fin 1024) : ReferenceIdeal.Read.lane (glob t r) = r :=
  Fin.ext (by unfold ReferenceIdeal.Read.lane glob; dsimp only; omega)

/-! ## The distances -/

theorem select_bit (p : Prop) [Decidable p] (a b : EReal) : Scalar.select (BitVec.ofBool (decide p)) a b = if p then a else b := by
  by_cases h : p <;> simp [h, Scalar.select]

theorem dist_at (x1 : Vec Ideal S1024x20 .f32) (x2 : Vec Ideal S3x1024 .f32) (r o : Fin 1024) :
    dist (F := Ideal) x1 x2 (ix2 r o)
      = ∑ a : Fin 3, (x1 (ix2 r ⟨a.val, by omega⟩) - x2 (ix2 a o)) * (x1 (ix2 r ⟨a.val, by omega⟩) - x2 (ix2 a o))
        + if r = o then Ideal.ofBits .f32 0x501502F9#32 else 0 := by
  pointwise [dist, k0_pay27, k0_pay25, coordRow]
  have ha : IntOp.addi (BitVec.ofNat 32 r.val) 0#32 = BitVec.ofNat 32 r.val := by
    unfold IntOp.addi
    exact BitVec.add_zero _
  rw [ha, lane_eq, select_bit, Fin.sum_univ_three]
  split
  · rfl
  · exact (add_zero _).symm

variable {m c} {V0 : Valuation ReferenceIdeal.τ ReferenceIdeal.sig (Elt Ideal)}

theorem dist_far (e : Agree m c V0) (t : Fin cfg0.N) (r o : Fin 1024) :
    dist (F := Ideal) (iblk m c 0 t) (iblk m c 1 t) (ix2 r o) = ReferenceIdeal.Read.far V0 (fr t) r o := by
  rw [dist_at]
  unfold ReferenceIdeal.Read.far
  simp only [blk0, blk1]
  refine congrArg (· + _) (Finset.sum_congr rfl fun a _ => ?_)
  have h0 := ft_geom m c (glob t r) a
  unfold ft at h0
  rw [h0, gT_at, e.g, glob_eq, glob_eq]

/-- The kernel's twenty nearest points are the reference program's. -/
theorem near_eq (e : Agree m c V0)
    (hg : ∀ x a, ∃ r : ℝ, ReferenceIdeal.Read.aG V0 (ix2 x a) = r ∧ |r| ≤ 999999984306749440) (t : Fin cfg0.N) (r : Fin 1024) (k : Fin 20) :
    nearNb (iblk m c 0 t) (dist (F := Ideal) (iblk m c 0 t) (iblk m c 1 t)) r k.val = ft m c (ReferenceIdeal.Read.nbr V0 (glob t r) k) := by
  have hrow : row (dist (F := Ideal) (iblk m c 0 t) (iblk m c 1 t)) r = ReferenceIdeal.Read.far V0 (fr t) r :=
    funext fun o => dist_far e t r o
  have hp : pick M (ReferenceIdeal.Read.far V0 (fr t) r) k.val = ReferenceIdeal.Read.rank V0 (fr t) r k :=
    (sortedFrom_eq_pick M _ (far_lt V0 hg (fr t) r) _ (fun _ _ => rfl) k.val (by omega)).symm
  funext q
  change (iblk m c 0 t : FVec Ideal S1024x20 .f32) (ix2 (pick M (row (dist (F := Ideal) (iblk m c 0 t) (iblk m c 1 t)) r) k.val) q) = _
  rw [blk0, hrow, hp]
  unfold ft ReferenceIdeal.Read.nbr
  rw [frame_glob, lane_glob, glob_eq]

/-! ## The point's own row -/

theorem pay26_at (x1 : Vec Ideal S1024x20 .f32) (x3 : Vec Ideal S20x128 .f32) (x4 : Vec Ideal S1x128 .f32) (r : Fin 1024) (q : Fin 128) :
    k0_pay26 (F := Ideal) x1 x3 x4 (ix2 r q) = ∑ k, x1 (ix2 r k) * x3 (ix2 k q) + x4 (ix2 0 q) := by
  pointwise [k0_pay26, k0_pay25]

theorem own_eq (t : Fin cfg0.N) (r : Fin 1024) :
    own (k0_pay26 (F := Ideal) (iblk m c 0 t) (iblk m c 2 t) (iblk m c 3 t)) r = ownRow m c (glob t r) := by
  funext q
  change k0_pay26 (F := Ideal) (iblk m c 0 t) (iblk m c 2 t) (iblk m c 3 t) (ix2 r q) = _
  rw [pay26_at, blk2, blk3]
  simp only [blk0]
  rfl

/-! ## The greatest message -/

theorem best_fold (f : ℕ → EReal) (n : ℕ) : best f n = Finset.univ.fold max ⊥ fun k : Fin n => f k.val := by
  induction n with
  | zero => rfl
  | succ n ih =>
    rw [Fin.univ_castSuccEmb, Finset.fold_cons, Finset.fold_map, max_comm]
    change max (best f n) (f n) = _
    rw [ih]
    rfl

theorem max_eq (h : RealArgs m c) (e : Agree m c V0)
    (hg : ∀ x a, ∃ r : ℝ, ReferenceIdeal.Read.aG V0 (ix2 x a) = r ∧ |r| ≤ 999999984306749440) (t : Fin cfg0.N) (r : Fin 1024) (o : Fin 64) :
    bodyMax (wts m c) (iblk m c 0 t) (iblk m c 1 t) (k0_pay26 (F := Ideal) (iblk m c 0 t) (iblk m c 2 t) (iblk m c 3 t)) (ix2 r o)
      = (ReferenceIdeal.Value.res_main_v97 V0 : FVec Ideal S16384x64 .f32) (ix2 (glob t r) o) := by
  rw [bodyMax_at _ _ _ _ (fun x => (blk0 m c t x 19).trans (ft_one m c (glob t x))), ReferenceIdeal.Read.v97_at, best_fold]
  refine congrArg (Finset.univ.fold max ⊥) (funext fun k => ?_)
  rw [near_eq e hg, own_eq, msg_eq m c h e]

/-! ## The output array -/

theorem blockOut_at (h : RealArgs m c) (e : Agree m c V0)
    (hg : ∀ x a, ∃ r : ℝ, ReferenceIdeal.Read.aG V0 (ix2 x a) = r ∧ |r| ≤ 999999984306749440) (t : Fin cfg0.N) (r : Fin 1024) (o : Fin 64) :
    blockOut m c t (ix2 r o) = (ReferenceIdeal.Read.normed (ReferenceIdeal.Value.res_main_v97 V0) (ReferenceIdeal.Read.aLg V0) (ReferenceIdeal.Read.aLb V0))
      (ix2 (glob t r) o) := by
  unfold blockOut bodyOut
  rw [blk_wts, pay1_at, ReferenceIdeal.Read.normed_row, blk9, blk10, lg_at, lb_at, e.lg, e.lb]
  simp only [max_eq h e hg]

/-- An array of the output's shape, from what the pipeline's points leave in its blocks. -/
theorem arr_of (dat : Pipeline.Dat τ (Elt Ideal) Unit ℕ (UR sig nD τ) ℕ cfg0 c) (B : Fin cfg0.N → FVec Ideal S1024x64 .f32)
    (hB : ∀ t, dat.after 11 t = B t) (G : FVec Ideal S16384x64 .f32)
    (h : ∀ t (y : S1024x64.Idx), B t y = G ((win0_11.blk t).view.emb y)) : dat.arrAt 11 cfg0.N = G := by
  refine dat.arrAt_eq_of_covers 11 _ (by decide +kernel) fun t hf y => ?_
  blk_simp
  rw [hB]
  exact h t y

theorem output_of (G : FVec Ideal S16384x64 .f32) (h : ∀ t r o, blockOut m c t (ix2 r o) = G (ix2 (glob t r) o)) :
    (dats m 0 c).arrAt 11 cfg0.N = G := by
  refine arr_of (dats m 0 c) (blockOut m c) (after0_11 m c) G fun t y => ?_
  obtain ⟨r, o, rfl⟩ : ∃ r o, y = ix2 r o := ⟨y 0, y 1, ValueIdx.eq_ix2 y⟩
  rw [h]
  blk_ext [glob, idx t]

/-- The reference program's result. -/
def refOut (V0 : Valuation ReferenceIdeal.τ ReferenceIdeal.sig (Elt Ideal)) : FVec Ideal S16384x64 .f32 :=
  ReferenceIdeal.Read.normed (ReferenceIdeal.Value.res_main_v97 V0) (ReferenceIdeal.Read.aLg V0) (ReferenceIdeal.Read.aLb V0)

/-- The output array after the run is the reference program's result. -/
theorem output_eq (e : Agree m c V0)
    (hpre : Cert.Pre_moderate.fn (F := Ideal) (aG m c) (aX m c) (m (c, Proc.tc.devRef main_arg2)) (aW1 m c) (aB1 m c) (aW2 m c) (aB2 m c)
      (aA1 m c) (aAb1 m c) (aA2 m c) (aAb2 m c) (aLg m c) (aLb m c) = fun _ => 1#1) :
    (dats m 0 c).arrAt 11 cfg0.N = refOut V0 := by
  obtain ⟨hg, hw⟩ := moderate_elim _ _ _ _ _ _ _ _ _ _ _ _ _ hpre
  have hg' : ∀ x a, ∃ r : ℝ, aG m c (ix2 x a) = r ∧ |r| ≤ 999999984306749440 := fun x a =>
    real_of_le _ _ (size_word ▸ hg x a)
  have h : RealArgs m c :=
    { geom := fun x a => (hg' x a).imp fun _ h => h.1
      weight := fun a q => real_of_lt _ (by simpa [Ideal.ofBits, Ideal.ieee] using hw a q) }
  exact output_of _ (blockOut_at h e (e.g ▸ hg'))

end Cert.KernelIdeal.Body

end
-- ==== Proof.SameProgram.lean ====
/- The kernel program and its ideal form are the same text, so a run of the one is a run of the other. -/
module

public import proofs.«01_k».proof.Defs
public import proofs.«01_k».proof.Proof.Gen.Kernel
public import proofs.«01_k».proof.Proof.Gen.KernelIdeal

@[expose] public section

noncomputable section

namespace Cert.Same

open Idealize.ShloMosaic Idealize.SL.Sem

theorem body_eq : @Cert.Kernel.cc0__frame_body Bits _ _ = @Cert.KernelIdeal.cc0__frame_body Bits _ _ := rfl

set_option maxHeartbeats 4000000 in
seal Cert.Kernel.cc0__frame_body Cert.KernelIdeal.cc0__frame_body in
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) =>
    dsimp only
    iterate 27 refine congrFun ?_ _
    exact body_eq

set_option maxHeartbeats 4000000 in
theorem main_eq : Cert.Kernel.main (F := Bits) = Cert.KernelIdeal.main (F := Bits) := by
  funext c
  unfold Cert.Kernel.main Cert.KernelIdeal.main
  rfl

set_option maxHeartbeats 4000000 in
seal Cert.Kernel.defs₀ Cert.KernelIdeal.defs₀ in
theorem defs_eq : Cert.Kernel.defs (F := Bits) = Cert.KernelIdeal.defs (F := Bits) := by
  exact congrArg (Pipeline.defs (Cert.Kernel.pcfgs (F := Bits))) bodies_eq

end Cert.Same

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_moderate
public import proofs.«01_k».proof.Proof.Run
public import proofs.«01_k».proof.Proof.Result
public import proofs.«01_k».proof.Proof.SameProgram

@[expose] public section

noncomputable section

namespace Cert.Proof

open Idealize.ShloMosaic Idealize.SL.Sem Cert.KernelIdeal.Body

/-- The kernel as it is: the run of the kernel program, at the machine's floats. -/
theorem frame_kernel : Cert.quiescent_Kernel := by
  intro m ρ _
  rw [Cert.Same.defs_eq, Cert.Same.main_eq]
  exact θ_run_with_sems (Cert.KernelIdeal.Gen.frame_of m ρ (dats m) (A_eq m)) (run_main (F := Bits) m ρ)

/-- The same run, at the ideal floats. -/
theorem frame_ideal : Cert.quiescent_KernelIdeal := fun m ρ _ =>
  θ_run_with_sems (Cert.KernelIdeal.Gen.frame_of m ρ (dats m) (A_eq m)) (run_main (F := Ideal) m ρ)

/-- The reference's run, which declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The two programs are run on the same arrays. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Agree m c (StableHlo.launchContents m' c) where
  g := h.1.symm
  x := h.2.1.symm
  w1 := h.2.2.2.1.symm
  b1 := h.2.2.2.2.1.symm
  w2 := h.2.2.2.2.2.1.symm
  b2 := h.2.2.2.2.2.2.1.symm
  a1 := h.2.2.2.2.2.2.2.1.symm
  ab1 := h.2.2.2.2.2.2.2.2.1.symm
  a2 := h.2.2.2.2.2.2.2.2.2.1.symm
  ab2 := h.2.2.2.2.2.2.2.2.2.2.1.symm
  lg := h.2.2.2.2.2.2.2.2.2.2.2.1.symm
  lb := h.2.2.2.2.2.2.2.2.2.2.2.2.symm

/-- The kernel's output array is the reference's result, at the ideal floats. -/
theorem value : Cert.algebraic_KernelIdeal_ReferenceIdeal_pre_moderate := by
  intro m g m' g' hpre hagree
  refine ⟨fun c => refOut (StableHlo.launchContents m' c), ?_, ?_⟩
  · refine (θ_run Cert.KernelIdeal.defs _ _).mono (fun r h c => ⟨?_, (h.2 c)⟩)
      (θ_run_and (run_main (F := Ideal) m g)
        (Cert.KernelIdeal.Gen.frame_of m g (dats m) (A_eq m) ((θ_run Cert.KernelIdeal.defs _ _).mono (fun _ h => h.1) (run_main (F := Ideal) m g))))
    exact (h.1.1.out_eq c 11).trans (output_eq (agree m m' c (hagree c)) (hpre c))
  · exact Cert.ReferenceIdeal.Value.run (F := Ideal) m' g'

theorem claim : Cert.Claim := ⟨Cert.Kernel.Gen.facts, Cert.KernelIdeal.Gen.facts, Cert.ReferenceIdeal.Gen.facts, Cert.Pre_moderate.Gen.facts,
  frame_kernel, frame_ideal, fun m ρ _ => frame_ideal m ρ trivial, frame_reference, fun m ρ _ => frame_reference m ρ trivial, trivial, value⟩

end Cert.Proof

end
